-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v147) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S1024x1024 : Shape := ⟨2, ![1024, 1024]⟩
abbrev S2048x256 : Shape := ⟨2, ![2048, 256]⟩
abbrev S256 : Shape := ⟨1, ![256]⟩
abbrev S1024x256 : Shape := ⟨2, ![1024, 256]⟩
abbrev S256x1 : Shape := ⟨2, ![256, 1]⟩
abbrev S1 : Shape := ⟨1, ![1]⟩
abbrev S16384x8 : Shape := ⟨2, ![16384, 8]⟩
abbrev S1x256 : Shape := ⟨2, ![1, 256]⟩
abbrev S1024 : Shape := ⟨1, ![1024]⟩
abbrev S1024x1 : Shape := ⟨2, ![1024, 1]⟩
abbrev S1x1 : Shape := ⟨2, ![1, 1]⟩
abbrev S16384x1 : Shape := ⟨2, ![16384, 1]⟩
abbrev S256x1024 : Shape := ⟨2, ![256, 1024]⟩
abbrev S256x8 : Shape := ⟨2, ![256, 8]⟩
abbrev S256x2048 : Shape := ⟨2, ![256, 2048]⟩
abbrev S256x256 : Shape := ⟨2, ![256, 256]⟩
abbrev S256x128 : Shape := ⟨2, ![256, 128]⟩
abbrev S128x256 : Shape := ⟨2, ![128, 256]⟩

abbrev nBuf : Space → Nat
  | .hbm => 17
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S2048x256, .f32⟩
  | .hbm, ⟨4, _⟩ => ⟨S256, .f32⟩
  | .hbm, ⟨5, _⟩ => ⟨S1024x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S16384x8, .f32⟩
  | .hbm, ⟨10, _⟩ => ⟨S1x256, .f32⟩
  | .hbm, ⟨11, _⟩ => ⟨S1024x256, .f32⟩
  | .hbm, ⟨12, _⟩ => ⟨S1x256, .f32⟩
  | .hbm, ⟨13, _⟩ => ⟨S1x256, .f32⟩
  | .hbm, ⟨14, _⟩ => ⟨S1x1, .f32⟩
  | .hbm, ⟨15, _⟩ => ⟨S16384x1024, .f32⟩
  | .hbm, ⟨16, _⟩ => ⟨S16384x1, .f32⟩
  | .local _ .vmem, ⟨0, _⟩ => ⟨S1024x1024, .f32⟩
  | .local _ .vmem, ⟨1, _⟩ => ⟨S1024x256, .f32⟩
  | .local _ .vmem, ⟨2, _⟩ => ⟨S1x256, .f32⟩
  | .local _ .vmem, ⟨3, _⟩ => ⟨S1024x256, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S2048x256, .f32⟩
  | .local _ .vmem, ⟨9, _⟩ => ⟨S1x256, .f32⟩
  | .local _ .vmem, ⟨10, _⟩ => ⟨S1x256, .f32⟩
  | .local _ .vmem, ⟨11, _⟩ => ⟨S1x1, .f32⟩
  | .local _ .vmem, ⟨12, _⟩ => ⟨S1024x256, .f32⟩
  | .local _ .vmem, ⟨13, _⟩ => ⟨S256x8, .f32⟩
  | .local _ .vmem, ⟨14, _⟩ => ⟨S256x8, .f32⟩
  | .local _ .vmem, ⟨15, _⟩ => ⟨S256x1024, .f32⟩
  | .local _ .vmem, ⟨16, _⟩ => ⟨S256x1024, .f32⟩
  | .local _ .vmem, ⟨17, _⟩ => ⟨S256x1, .f32⟩
  | .local _ .vmem, ⟨18, _⟩ => ⟨S256x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc1_stg8_0 : Ref sig .tc := ⟨.vmem, 15, rfl⟩
abbrev cc1_stg8_1 : Ref sig .tc := ⟨.vmem, 16, rfl⟩
abbrev cc1_stg9_0 : Ref sig .tc := ⟨.vmem, 17, rfl⟩
abbrev cc1_stg9_1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev cc1_sem8_0 : DmaSem sig := 15
abbrev cc1_sem8_1 : DmaSem sig := 16
abbrev cc1_sem9_0 : DmaSem sig := 17
abbrev cc1_sem9_1 : DmaSem sig := 18

abbrev nD : Nat := 1
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x8 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ReferenceIdeal.lean ====
abbrev S16384x1024 : Shape := ⟨2, ![16384, 1024]⟩
abbrev S1024x1024 : Shape := ⟨2, ![1024, 1024]⟩
abbrev S2048x256 : Shape := ⟨2, ![2048, 256]⟩
abbrev S256 : Shape := ⟨1, ![256]⟩
abbrev S1024x256 : Shape := ⟨2, ![1024, 256]⟩
abbrev S256x1 : Shape := ⟨2, ![256, 1]⟩
abbrev S1 : Shape := ⟨1, ![1]⟩
abbrev S16384x8 : Shape := ⟨2, ![16384, 8]⟩
abbrev S16384x2048 : Shape := ⟨2, ![16384, 2048]⟩
abbrev S16384x256 : Shape := ⟨2, ![16384, 256]⟩
abbrev S1x256 : Shape := ⟨2, ![1, 256]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1024x1 : Shape := ⟨2, ![1024, 1]⟩
abbrev S1x1 : Shape := ⟨2, ![1, 1]⟩
abbrev S256x1024 : Shape := ⟨2, ![256, 1024]⟩
abbrev S8 : Shape := ⟨1, ![8]⟩
abbrev S1x8 : Shape := ⟨2, ![1, 8]⟩
abbrev S16384x1x1024 : Shape := ⟨3, ![16384, 1, 1024]⟩
abbrev S16384x8x1 : Shape := ⟨3, ![16384, 8, 1]⟩
abbrev S16384x8x1024 : Shape := ⟨3, ![16384, 8, 1024]⟩
abbrev S16384x8x2 : Shape := ⟨3, ![16384, 8, 2]⟩
abbrev S7 : Shape := ⟨1, ![7]⟩
abbrev S16384x1024x1 : Shape := ⟨3, ![16384, 1024, 1]⟩
abbrev S1x1x7 : Shape := ⟨3, ![1, 1, 7]⟩
abbrev S16384x1024x7 : Shape := ⟨3, ![16384, 1024, 7]⟩

abbrev nBuf : Space → Nat
  | .hbm => 219
  | .vmem => 0
  | .smem => 0
  | _ => 0

abbrev hbmTy0_0 (i : Nat) : BufTy := match i % 128 with
  | 0 => ⟨S16384x1024, .f32⟩
  | 1 => ⟨S16384x1024, .f32⟩
  | 2 => ⟨S1024x1024, .f32⟩
  | 3 => ⟨S2048x256, .f32⟩
  | 4 => ⟨S256, .f32⟩
  | 5 => ⟨S1024x256, .f32⟩
  | 6 => ⟨S256, .f32⟩
  | 7 => ⟨S256x1, .f32⟩
  | 8 => ⟨S1, .f32⟩
  | 9 => ⟨S16384x8, .f32⟩
  | 10 => ⟨S16384x2048, .f32⟩
  | 11 => ⟨S16384x256, .f32⟩
  | 12 => ⟨S1x256, .f32⟩
  | 13 => ⟨S16384x256, .f32⟩
  | 14 => ⟨S16384x256, .f32⟩
  | 15 => ⟨S16384x256, .f32⟩
  | 16 => ⟨S_, .f32⟩
  | 17 => ⟨S16384, .f32⟩
  | 18 => ⟨S16384x1, .f32⟩
  | 19 => ⟨S16384x1, .f32⟩
  | 20 => ⟨S_, .f32⟩
  | 21 => ⟨S16384x1, .f32⟩
  | 22 => ⟨S16384x1, .f32⟩
  | 23 => ⟨S16384x256, .f32⟩
  | 24 => ⟨S16384x256, .f32⟩
  | 25 => ⟨S1024x256, .f32⟩
  | 26 => ⟨S1x256, .f32⟩
  | 27 => ⟨S1024x256, .f32⟩
  | 28 => ⟨S1024x256, .f32⟩
  | 29 => ⟨S1024x256, .f32⟩
  | 30 => ⟨S_, .f32⟩
  | 31 => ⟨S1024, .f32⟩
  | 32 => ⟨S1024x1, .f32⟩
  | 33 => ⟨S1024x1, .f32⟩
  | 34 => ⟨S_, .f32⟩
  | 35 => ⟨S1024x1, .f32⟩
  | 36 => ⟨S1024x1, .f32⟩
  | 37 => ⟨S1024x256, .f32⟩
  | 38 => ⟨S1024x256, .f32⟩
  | 39 => ⟨S16384x1, .f32⟩
  | 40 => ⟨S1x1, .f32⟩
  | 41 => ⟨S16384x1, .f32⟩
  | 42 => ⟨S16384x1, .f32⟩
  | 43 => ⟨S16384x1, .f32⟩
  | 44 => ⟨S16384x1, .f32⟩
  | 45 => ⟨S_, .f32⟩
  | 46 => ⟨S16384x1, .f32⟩
  | 47 => ⟨S16384x1, .f32⟩
  | 48 => ⟨S_, .f32⟩
  | 49 => ⟨S16384x1, .f32⟩
  | 50 => ⟨S16384x1, .f32⟩
  | 51 => ⟨S_, .f32⟩
  | 52 => ⟨S16384x1, .f32⟩
  | 53 => ⟨S16384x1, .f32⟩
  | 54 => ⟨S16384x1, .f32⟩
  | 55 => ⟨S_, .i32⟩
  | 56 => ⟨S_, .i32⟩
  | 57 => ⟨S_, .f32⟩
  | 58 => ⟨S16384x1, .f32⟩
  | 59 => ⟨S16384x1, .f32⟩
  | 60 => ⟨S_, .f32⟩
  | 61 => ⟨S16384x1, .f32⟩
  | 62 => ⟨S16384x1, .f32⟩
  | 63 => ⟨S16384x1, .i32⟩
  | 64 => ⟨S256x1024, .f32⟩
  | 65 => ⟨S16384x1024, .f32⟩
  | 66 => ⟨S_, .f32⟩
  | 67 => ⟨S16384, .f32⟩
  | 68 => ⟨S_, .f32⟩
  | 69 => ⟨S16384, .f32⟩
  | 70 => ⟨S16384, .f32⟩
  | 71 => ⟨S16384x1, .f32⟩
  | 72 => ⟨S16384x1024, .f32⟩
  | 73 => ⟨S16384x1024, .f32⟩
  | 74 => ⟨S16384x1024, .f32⟩
  | 75 => ⟨S_, .f32⟩
  | 76 => ⟨S16384, .f32⟩
  | 77 => ⟨S16384x1, .f32⟩
  | 78 => ⟨S16384x1024, .f32⟩
  | 79 => ⟨S16384x1024, .f32⟩
  | 80 => ⟨S_, .f32⟩
  | 81 => ⟨S_, .f32⟩
  | 82 => ⟨S16384x1024, .f32⟩
  | 83 => ⟨S8, .i32⟩
  | 84 => ⟨S_, .i32⟩
  | 85 => ⟨S8, .i32⟩
  | 86 => ⟨S8, .i32⟩
  | 87 => ⟨S1x8, .i32⟩
  | 88 => ⟨S16384x8, .i32⟩
  | 89 => ⟨S16384x8, .i32⟩
  | 90 => ⟨S16384x8, .i1⟩
  | 91 => ⟨S16384x8, .f32⟩
  | 92 => ⟨S16384x1x1024, .f32⟩
  | 93 => ⟨S16384x8x1, .f32⟩
  | 94 => ⟨S16384x8x1024, .f32⟩
  | 95 => ⟨S16384x8x1024, .f32⟩
  | 96 => ⟨S16384x8x1024, .i1⟩
  | 97 => ⟨S16384x8x1024, .f32⟩
  | 98 => ⟨S16384x8x1024, .i32⟩
  | 99 => ⟨S_, .f32⟩
  | 100 => ⟨S_, .i32⟩
  | 101 => ⟨S16384x8, .f32⟩
  | 102 => ⟨S16384x8, .i32⟩
  | 103 => ⟨S16384, .i32⟩
  | 104 => ⟨S16384x1, .i32⟩
  | 105 => ⟨S_, .f32⟩
  | 106 => ⟨S16384x1024, .f32⟩
  | 107 => ⟨S_, .i32⟩
  | 108 => ⟨S16384x1, .i32⟩
  | 109 => ⟨S16384x1, .i1⟩
  | 110 => ⟨S_, .i32⟩
  | 111 => ⟨S16384x1, .i32⟩
  | 112 => ⟨S16384x1, .i32⟩
  | 113 => ⟨S16384x1, .i32⟩
  | 114 => ⟨S_, .i32⟩
  | 115 => ⟨S16384x8, .i32⟩
  | 116 => ⟨S16384x8, .i1⟩
  | 117 => ⟨S_, .i32⟩
  | 118 => ⟨S16384x8, .i32⟩
  | 119 => ⟨S16384x8, .i32⟩
  | 120 => ⟨S16384x8, .i32⟩
  | 121 => ⟨S16384x8, .i32⟩
  | 122 => ⟨S16384x8x1, .i32⟩
  | 123 => ⟨S16384x8x1, .i32⟩
  | 124 => ⟨S16384x8x2, .i32⟩
  | 125 => ⟨S16384x1024, .f32⟩
  | 126 => ⟨S7, .i32⟩
  | 127 => ⟨S_, .i32⟩
  | _ => ⟨S16384x1024, .f32⟩

abbrev hbmTy0_1 (i : Nat) : BufTy := match i % 128 with
  | 0 => ⟨S7, .i32⟩
  | 1 => ⟨S7, .i32⟩
  | 2 => ⟨S7, .f32⟩
  | 3 => ⟨S16384x1024x1, .f32⟩
  | 4 => ⟨S1x1x7, .f32⟩
  | 5 => ⟨S16384x1024x7, .f32⟩
  | 6 => ⟨S16384x1024x7, .f32⟩
  | 7 => ⟨S16384x1024x7, .i1⟩
  | 8 => ⟨S7, .f32⟩
  | 9 => ⟨S_, .f32⟩
  | 10 => ⟨S_, .f32⟩
  | 11 => ⟨S16384x1024x7, .f32⟩
  | 12 => ⟨S16384x1024x7, .f32⟩
  | 13 => ⟨S16384x1024x7, .f32⟩
  | 14 => ⟨S_, .f32⟩
  | 15 => ⟨S16384x1024, .f32⟩
  | 16 => ⟨S_, .f32⟩
  | 17 => ⟨S16384x1, .f32⟩
  | 18 => ⟨S16384x1, .f32⟩
  | 19 => ⟨S_, .f32⟩
  | 20 => ⟨S16384x1, .f32⟩
  | 21 => ⟨S16384x1, .f32⟩
  | 22 => ⟨S_, .f32⟩
  | 23 => ⟨S16384x1, .f32⟩
  | 24 => ⟨S16384x1, .f32⟩
  | 25 => ⟨S_, .f32⟩
  | 26 => ⟨S16384x1, .f32⟩
  | 27 => ⟨S16384x1, .f32⟩
  | 28 => ⟨S_, .f32⟩
  | 29 => ⟨S16384x1, .f32⟩
  | 30 => ⟨S16384x1, .f32⟩
  | 31 => ⟨S_, .f32⟩
  | 32 => ⟨S16384x1, .f32⟩
  | 33 => ⟨S16384x1, .f32⟩
  | 34 => ⟨S16384x1, .f32⟩
  | 35 => ⟨S_, .f32⟩
  | 36 => ⟨S16384x1, .f32⟩
  | 37 => ⟨S16384x1, .f32⟩
  | 38 => ⟨S_, .f32⟩
  | 39 => ⟨S16384x1, .f32⟩
  | 40 => ⟨S16384x1, .f32⟩
  | 41 => ⟨S16384x1, .f32⟩
  | 42 => ⟨S_, .f32⟩
  | 43 => ⟨S16384x1, .f32⟩
  | 44 => ⟨S16384x1, .f32⟩
  | 45 => ⟨S_, .f32⟩
  | 46 => ⟨S16384x1, .f32⟩
  | 47 => ⟨S16384x1, .f32⟩
  | 48 => ⟨S16384x1, .f32⟩
  | 49 => ⟨S_, .f32⟩
  | 50 => ⟨S16384x1, .f32⟩
  | 51 => ⟨S16384x1, .f32⟩
  | 52 => ⟨S_, .f32⟩
  | 53 => ⟨S16384x1, .f32⟩
  | 54 => ⟨S16384x1, .f32⟩
  | 55 => ⟨S16384x1, .f32⟩
  | 56 => ⟨S_, .f32⟩
  | 57 => ⟨S16384x1, .f32⟩
  | 58 => ⟨S16384x1, .f32⟩
  | 59 => ⟨S_, .f32⟩
  | 60 => ⟨S16384x1, .f32⟩
  | 61 => ⟨S16384x1, .f32⟩
  | 62 => ⟨S16384x1, .f32⟩
  | 63 => ⟨S_, .f32⟩
  | 64 => ⟨S16384x1, .f32⟩
  | 65 => ⟨S16384x1, .f32⟩
  | 66 => ⟨S_, .f32⟩
  | 67 => ⟨S16384x1, .f32⟩
  | 68 => ⟨S16384x1, .f32⟩
  | 69 => ⟨S16384x1, .f32⟩
  | 70 => ⟨S16384x1, .f32⟩
  | 71 => ⟨S_, .f32⟩
  | 72 => ⟨S16384x1, .f32⟩
  | 73 => ⟨S16384x1, .f32⟩
  | 74 => ⟨S16384x1, .f32⟩
  | 75 => ⟨S_, .f32⟩
  | 76 => ⟨S16384x1, .f32⟩
  | 77 => ⟨S16384x1, .f32⟩
  | 78 => ⟨S16384x1, .f32⟩
  | 79 => ⟨S16384x1, .f32⟩
  | 80 => ⟨S16384x1, .f32⟩
  | 81 => ⟨S_, .f32⟩
  | 82 => ⟨S16384, .f32⟩
  | 83 => ⟨S16384x1, .f32⟩
  | 84 => ⟨S16384x1, .f32⟩
  | 85 => ⟨S16384x1024, .f32⟩
  | 86 => ⟨S16384x1024, .f32⟩
  | 87 => ⟨S_, .f32⟩
  | 88 => ⟨S16384, .f32⟩
  | 89 => ⟨S16384x1, .f32⟩
  | 90 => ⟨S16384x1, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_call0_v2 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_call1_v2 : Ref sig .tc := ⟨.hbm, 32, rfl⟩
abbrev main_v14 : Ref sig .tc := ⟨.hbm, 33, rfl⟩
abbrev main_cst_0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_1 : Ref sig .tc := ⟨.hbm, 45, rfl⟩
abbrev main_v25 : Ref sig .tc := ⟨.hbm, 46, rfl⟩
abbrev main_v26 : Ref sig .tc := ⟨.hbm, 47, rfl⟩
abbrev main_cst_2 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c : Ref sig .tc := ⟨.hbm, 55, rfl⟩
abbrev main_c_4 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_5 : Ref sig .tc := ⟨.hbm, 66, rfl⟩
abbrev main_v36 : Ref sig .tc := ⟨.hbm, 67, rfl⟩
abbrev main_cst_6 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_7 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_call4_call0_cst : Ref sig .tc := ⟨.hbm, 80, rfl⟩
abbrev main_call4_call0_v0 : Ref sig .tc := ⟨.hbm, 81, rfl⟩
abbrev main_v47 : Ref sig .tc := ⟨.hbm, 82, rfl⟩
abbrev main_v48 : Ref sig .tc := ⟨.hbm, 83, rfl⟩
abbrev main_c_8 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_call5_v0 : Ref sig .tc := ⟨.hbm, 98, rfl⟩
abbrev main_call5_cst : Ref sig .tc := ⟨.hbm, 99, rfl⟩
abbrev main_call5_c : Ref sig .tc := ⟨.hbm, 100, rfl⟩
abbrev main_call5_v1_0 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_9 : Ref sig .tc := ⟨.hbm, 105, rfl⟩
abbrev main_v65 : Ref sig .tc := ⟨.hbm, 106, rfl⟩
abbrev main_c_10 : Ref sig .tc := ⟨.hbm, 107, rfl⟩
abbrev main_v66 : Ref sig .tc := ⟨.hbm, 108, rfl⟩
abbrev main_v67 : Ref sig .tc := ⟨.hbm, 109, rfl⟩
abbrev main_c_11 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_c_12 : Ref sig .tc := ⟨.hbm, 114, rfl⟩
abbrev main_v71 : Ref sig .tc := ⟨.hbm, 115, rfl⟩
abbrev main_v72 : Ref sig .tc := ⟨.hbm, 116, rfl⟩
abbrev main_c_13 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_c_14 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_15 : Ref sig .tc := ⟨.hbm, 137, rfl⟩
abbrev main_call6_v0 : Ref sig .tc := ⟨.hbm, 138, rfl⟩
abbrev main_call6_v1 : Ref sig .tc := ⟨.hbm, 139, rfl⟩
abbrev main_call6_v2 : Ref sig .tc := ⟨.hbm, 140, rfl⟩
abbrev main_v91 : Ref sig .tc := ⟨.hbm, 141, rfl⟩
abbrev main_cst_16 : Ref sig .tc := ⟨.hbm, 142, rfl⟩
abbrev main_v92 : Ref sig .tc := ⟨.hbm, 143, rfl⟩
abbrev main_cst_17 : Ref sig .tc := ⟨.hbm, 144, rfl⟩
abbrev main_v93 : Ref sig .tc := ⟨.hbm, 145, rfl⟩
abbrev main_v94 : Ref sig .tc := ⟨.hbm, 146, rfl⟩
abbrev main_cst_18 : Ref sig .tc := ⟨.hbm, 147, rfl⟩
abbrev main_v95 : Ref sig .tc := ⟨.hbm, 148, rfl⟩
abbrev main_v96 : Ref sig .tc := ⟨.hbm, 149, rfl⟩
abbrev main_cst_19 : Ref sig .tc := ⟨.hbm, 150, rfl⟩
abbrev main_v97 : Ref sig .tc := ⟨.hbm, 151, rfl⟩
abbrev main_v98 : Ref sig .tc := ⟨.hbm, 152, rfl⟩
abbrev main_cst_20 : Ref sig .tc := ⟨.hbm, 153, rfl⟩
abbrev main_v99 : Ref sig .tc := ⟨.hbm, 154, rfl⟩
abbrev main_v100 : Ref sig .tc := ⟨.hbm, 155, rfl⟩
abbrev main_cst_21 : Ref sig .tc := ⟨.hbm, 156, rfl⟩
abbrev main_v101 : Ref sig .tc := ⟨.hbm, 157, rfl⟩
abbrev main_v102 : Ref sig .tc := ⟨.hbm, 158, rfl⟩
abbrev main_cst_22 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_cst_23 : Ref sig .tc := ⟨.hbm, 163, rfl⟩
abbrev main_v106 : Ref sig .tc := ⟨.hbm, 164, rfl⟩
abbrev main_v107 : Ref sig .tc := ⟨.hbm, 165, rfl⟩
abbrev main_cst_24 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_cst_25 : Ref sig .tc := ⟨.hbm, 170, rfl⟩
abbrev main_v111 : Ref sig .tc := ⟨.hbm, 171, rfl⟩
abbrev main_v112 : Ref sig .tc := ⟨.hbm, 172, rfl⟩
abbrev main_cst_26 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_cst_27 : Ref sig .tc := ⟨.hbm, 177, rfl⟩
abbrev main_v116 : Ref sig .tc := ⟨.hbm, 178, rfl⟩
abbrev main_v117 : Ref sig .tc := ⟨.hbm, 179, rfl⟩
abbrev main_cst_28 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_cst_29 : Ref sig .tc := ⟨.hbm, 184, rfl⟩
abbrev main_v121 : Ref sig .tc := ⟨.hbm, 185, rfl⟩
abbrev main_v122 : Ref sig .tc := ⟨.hbm, 186, rfl⟩
abbrev main_cst_30 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_cst_31 : Ref sig .tc := ⟨.hbm, 191, rfl⟩
abbrev main_v126 : Ref sig .tc := ⟨.hbm, 192, rfl⟩
abbrev main_v127 : Ref sig .tc := ⟨.hbm, 193, rfl⟩
abbrev main_cst_32 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_cst_33 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_cst_34 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_cst_35 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_cst_36 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩

abbrev nD : Nat := 1
abbrev τ : Topo := Topo.v7x

variable {F : FTy → Type} [FloatOps F]
-- ==== Proof.RefOps.lean ====
/- The reference program as a list of its 209 host operations, cut into eight windows at the values the proof names, with
   what its run lemma asks of such a list: every operation works on TensorCore buffers and writes none afresh. -/
module

public import proofs.«01_k».proof.Proof.Gen.ReferenceIdeal
public import Idealize.ShloMosaic.Lib.StableHlo.Run
public import Idealize.ShloMosaic.Lib.Pipeline.Frame

@[expose] public section

set_option maxRecDepth 16384
set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Queries and tasks joined along the feature axis. -/
def joinFeatures : (⟨S16384x1024, .f32⟩ : BufTy).Contents (Elt F) → (⟨S16384x1024, .f32⟩ : BufTy).Contents (Elt F) → (⟨S16384x2048, .f32⟩ : BufTy).Contents (Elt F) :=
  (fun a b => concatenate S16384x2048 1 [⟨S16384x1024, a⟩, ⟨S16384x1024, b⟩] concatenates_S16384x1024_S16384x1024_S16384x2048_d1)

/-- A row number and a column number joined into one coordinate pair. -/
def joinCoords : (⟨S16384x8x1, .i32⟩ : BufTy).Contents (Elt F) → (⟨S16384x8x1, .i32⟩ : BufTy).Contents (Elt F) → (⟨S16384x8x2, .i32⟩ : BufTy).Contents (Elt F) :=
  (fun a b => concatenate S16384x8x2 2 [⟨S16384x8x1, a⟩, ⟨S16384x8x1, b⟩] concatenates_S16384x8x1_S16384x8x1_S16384x8x2_d2)

/-- The operations that compute the two normalised linear embeddings. -/
abbrev opsEmbed : List (HloOp τ sig (Elt F)) :=
  [ binary main_arg0 main_arg1 main_v0 (joinFeatures (F := F)),
    binary main_v0 main_arg3 main_v1 ((fun l r => Host.dotGeneral dot_S16384x2048_S2048x256_S16384x256_1_0_0_1_n_n none l r) : (⟨S16384x2048, .f32⟩ : BufTy).Contents (Elt F) → (⟨S2048x256, .f32⟩ : BufTy).Contents (Elt F) → (⟨S16384x256, .f32⟩ : BufTy).Contents (Elt F)),
    unary main_arg4 main_v2 (broadcastInDim S1x256 ![1] bcast_S256_S1x256_1 : (⟨S256, .f32⟩ : BufTy).Contents (Elt F) → (⟨S1x256, .f32⟩ : BufTy).Contents (Elt F)),
    unary main_v2 main_v3 (broadcastInDim S16384x256 ![0, 1] bcast_S1x256_S16384x256_0_1 : (⟨S1x256, .f32⟩ : BufTy).Contents (Elt F) → (⟨S16384x256, .f32⟩ : BufTy).Contents (Elt F)),
    binary main_v1 main_v3 main_v4 (addf : (⟨S16384x256, .f32⟩ : BufTy).Contents (Elt F) → (⟨S16384x256, .f32⟩ : BufTy).Contents (Elt F) → (⟨S16384x256, .f32⟩ : BufTy).Contents (Elt F)),
    TRef.binary (TRef.of (T := ⟨S16384x256, .f32⟩) main_v4) (TRef.of (T := ⟨S16384x256, .f32⟩) main_v4) (TRef.of (T := ⟨S16384x256, .f32⟩) main_call0_v0) mulf,
    TRef.nullary (TRef.of (T := ⟨S_, .f32⟩) main_call0_cst) (constant S_ .f32 0x00000000#32),
    TRef.binary (TRef.of (T := ⟨S16384x256, .f32⟩) main_call0_v0) (TRef.of (T := ⟨S_, .f32⟩) main_call0_cst) (TRef.of (T := ⟨S16384, .f32⟩) main_call0_v1) (fun x v => Host.reduceAdd x v reducesTo_S16384x256_S16384_d1 h_S_),
    TRef.unary (TRef.of (T := ⟨S16384, .f32⟩) main_call0_v1) (TRef.of (T := ⟨S16384x1, .f32⟩) main_call0_v2) (broadcastInDim S16384x1 ![0] bcast_S16384_S16384x1_0),
    TRef.unary (TRef.of (T := ⟨S16384x1, .f32⟩) main_call0_v2) (TRef.of (T := ⟨S16384x1, .f32⟩) main_v5) Host.sqrt,
    nullary main_cst (constant S_ .f32 0x2B8CBCCC#32),
    unary main_cst main_v6 (broadcastInDim S16384x1 ![] bcast_S_S16384x1 : (⟨S_, .f32⟩ : BufTy).Contents (Elt F) → (⟨S16384x1, .f32⟩ : BufTy).Contents (Elt F)),
    binary main_v5 main_v6 main_v7 (maximumf : (⟨S16384x1, .f32⟩ : BufTy).Contents (Elt F) → (⟨S16384x1, .f32⟩ : BufTy).Contents (Elt F) → (⟨S16384x1, .f32⟩ : BufTy).Contents (Elt F)),
    unary main_v7 main_v8 (broadcastInDim S16384x256 ![0, 1] bcast_S16384x1_S16384x256_0_1 : (⟨S16384x1, .f32⟩ : BufTy).Contents (Elt F) → (⟨S16384x256, .f32⟩ : BufTy).Contents (Elt F)),
    binary main_v4 main_v8 main_v9 (Host.divf : (⟨S16384x256, .f32⟩ : BufTy).Contents (Elt F) → (⟨S16384x256, .f32⟩ : BufTy).Contents (Elt F) → (⟨S16384x256, .f32⟩ : BufTy).Contents (Elt F)),
    binary main_arg2 main_arg5 main_v10 ((fun l r => Host.dotGeneral dot_S1024x1024_S1024x256_S1024x256_1_0_0_1_n_n none l r) : (⟨S1024x1024, .f32⟩ : BufTy).Contents (Elt F) → (⟨S1024x256, .f32⟩ : BufTy).Contents (Elt F) → (⟨S1024x256, .f32⟩ : BufTy).Contents (Elt F)),
    unary main_arg6 main_v11 (broadcastInDim S1x256 ![1] bcast_S256_S1x256_1 : (⟨S256, .f32⟩ : BufTy).Contents (Elt F) → (⟨S1x256, .f32⟩ : BufTy).Contents (Elt F)),
    unary main_v11 main_v12 (broadcastInDim S1024x256 ![0, 1] bcast_S1x256_S1024x256_0_1 : (⟨S1x256, .f32⟩ : BufTy).Contents (Elt F) → (⟨S1024x256, .f32⟩ : BufTy).Contents (Elt F)),
    binary main_v10 main_v12 main_v13 (addf : (⟨S1024x256, .f32⟩ : BufTy).Contents (Elt F) → (⟨S1024x256, .f32⟩ : BufTy).Contents (Elt F) → (⟨S1024x256, .f32⟩ : BufTy).Contents (Elt F)),
    TRef.binary (TRef.of (T := ⟨S1024x256, .f32⟩) main_v13) (TRef.of (T := ⟨S1024x256, .f32⟩) main_v13) (TRef.of (T := ⟨S1024x256, .f32⟩) main_call1_v0) mulf,
    TRef.nullary (TRef.of (T := ⟨S_, .f32⟩) main_call1_cst) (constant S_ .f32 0x00000000#32),
    TRef.binary (TRef.of (T := ⟨S1024x256, .f32⟩) main_call1_v0) (TRef.of (T := ⟨S_, .f32⟩) main_call1_cst) (TRef.of (T := ⟨S1024, .f32⟩) main_call1_v1) (fun x v => Host.reduceAdd x v reducesTo_S1024x256_S1024_d1 h_S_),
    TRef.unary (TRef.of (T := ⟨S1024, .f32⟩) main_call1_v1) (TRef.of (T := ⟨S1024x1, .f32⟩) main_call1_v2) (broadcastInDim S1024x1 ![0] bcast_S1024_S1024x1_0),
    TRef.unary (TRef.of (T := ⟨S1024x1, .f32⟩) main_call1_v2) (TRef.of (T := ⟨S1024x1, .f32⟩) main_v14) Host.sqrt,
    nullary main_cst_0 (constant S_ .f32 0x2B8CBCCC#32),
    unary main_cst_0 main_v15 (broadcastInDim S1024x1 ![] bcast_S_S1024x1 : (⟨S_, .f32⟩ : BufTy).Contents (Elt F) → (⟨S1024x1, .f32⟩ : BufTy).Contents (Elt F)),
    binary main_v14 main_v15 main_v16 (maximumf : (⟨S1024x1, .f32⟩ : BufTy).Contents (Elt F) → (⟨S1024x1, .f32⟩ : BufTy).Contents (Elt F) → (⟨S1024x1, .f32⟩ : BufTy).Contents (Elt F)),
    unary main_v16 main_v17 (broadcastInDim S1024x256 ![0, 1] bcast_S1024x1_S1024x256_0_1 : (⟨S1024x1, .f32⟩ : BufTy).Contents (Elt F) → (⟨S1024x256, .f32⟩ : BufTy).Contents (Elt F)),
    binary main_v13 main_v17 main_v18 (Host.divf : (⟨S1024x256, .f32⟩ : BufTy).Contents (Elt F) → (⟨S1024x256, .f32⟩ : BufTy).Contents (Elt F) → (⟨S1024x256, .f32⟩ : BufTy).Contents (Elt F)) ]

/-- The buffers that `opsEmbed` writes. -/
abbrev opsEmbedW : List (Ref sig .tc) :=
  [main_v0, main_v1, main_v2, main_v3, main_v4, main_call0_v0, main_call0_cst, main_call0_v1, main_call0_v2, main_v5, main_cst, main_v6, main_v7, main_v8, main_v9, main_v10, main_v11, main_v12, main_v13, main_call1_v0, main_call1_cst, main_call1_v1, main_call1_v2, main_v14, main_cst_0, main_v15, main_v16, main_v17, main_v18]

theorem opsEmbed_writes : (opsEmbed : List (HloOp τ sig (Elt F))).Forall fun op => op.writes ⊆ (opsEmbedW.map (Proc.devRef (τ := τ) .tc)).toFinset :=
  forall_writes_sub_of_map rfl

theorem opsEmbed_fresh : (opsEmbed : List (HloOp τ sig (Elt F))).Forall fun op => op.fresh = ∅ :=
  forall_fresh_of_map rfl

theorem opsEmbed_sub : (opsEmbed : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, and_self]

/-- The operations that compute the expected number of agents and its rounded integer. -/
abbrev opsCount : List (HloOp τ sig (Elt F)) :=
  [ binary main_v9 main_arg7 main_v19 ((fun l r => Host.dotGeneral dot_S16384x256_S256x1_S16384x1_1_0_0_1_n_n none l r) : (⟨S16384x256, .f32⟩ : BufTy).Contents (Elt F) → (⟨S256x1, .f32⟩ : BufTy).Contents (Elt F) → (⟨S16384x1, .f32⟩ : BufTy).Contents (Elt F)),
    unary main_arg8 main_v20 (broadcastInDim S1x1 ![1] bcast_S1_S1x1_1 : (⟨S1, .f32⟩ : BufTy).Contents (Elt F) → (⟨S1x1, .f32⟩ : BufTy).Contents (Elt F)),
    unary main_v20 main_v21 (broadcastInDim S16384x1 ![0, 1] bcast_S1x1_S16384x1_0_1 : (⟨S1x1, .f32⟩ : BufTy).Contents (Elt F) → (⟨S16384x1, .f32⟩ : BufTy).Contents (Elt F)),
    binary main_v19 main_v21 main_v22 (addf : (⟨S16384x1, .f32⟩ : BufTy).Contents (Elt F) → (⟨S16384x1, .f32⟩ : BufTy).Contents (Elt F) → (⟨S16384x1, .f32⟩ : BufTy).Contents (Elt F)),
    unary main_v22 main_v23 (Host.negf : (⟨S16384x1, .f32⟩ : BufTy).Contents (Elt F) → (⟨S16384x1, .f32⟩ : BufTy).Contents (Elt F)),
    unary main_v23 main_v24 (Host.exp : (⟨S16384x1, .f32⟩ : BufTy).Contents (Elt F) → (⟨S16384x1, .f32⟩ : BufTy).Contents (Elt F)),
    nullary main_cst_1 (constant S_ .f32 0x3F800000#32),
    unary main_cst_1 main_v25 (broadcastInDim S16384x1 ![] bcast_S_S16384x1 : (⟨S_, .f32⟩ : BufTy).Contents (Elt F) → (⟨S16384x1, .f32⟩ : BufTy).Contents (Elt F)),
    binary main_v25 main_v24 main_v26 (addf : (⟨S16384x1, .f32⟩ : BufTy).Contents (Elt F) → (⟨S16384x1, .f32⟩ : BufTy).Contents (Elt F) → (⟨S16384x1, .f32⟩ : BufTy).Contents (Elt F)),
    nullary main_cst_2 (constant S_ .f32 0x3F800000#32),
    unary main_cst_2 main_v27 (broadcastInDim S16384x1 ![] bcast_S_S16384x1 : (⟨S_, .f32⟩ : BufTy).Contents (Elt F) → (⟨S16384x1, .f32⟩ : BufTy).Contents (Elt F)),
    binary main_v27 main_v26 main_v28 (Host.divf : (⟨S16384x1, .f32⟩ : BufTy).Contents (Elt F) → (⟨S16384x1, .f32⟩ : BufTy).Contents (Elt F) → (⟨S16384x1, .f32⟩ : BufTy).Contents (Elt F)),
    nullary main_cst_3 (constant S_ .f32 0x41000000#32),
    unary main_cst_3 main_v29 (broadcastInDim S16384x1 ![] bcast_S_S16384x1 : (⟨S_, .f32⟩ : BufTy).Contents (Elt F) → (⟨S16384x1, .f32⟩ : BufTy).Contents (Elt F)),
    binary main_v28 main_v29 main_v30 (mulf : (⟨S16384x1, .f32⟩ : BufTy).Contents (Elt F) → (⟨S16384x1, .f32⟩ : BufTy).Contents (Elt F) → (⟨S16384x1, .f32⟩ : BufTy).Contents (Elt F)),
    TRef.unary (TRef.of (T := ⟨S16384x1, .f32⟩) main_v30) (TRef.of (T := ⟨S16384x1, .f32⟩) main_v31) Host.roundeven,
    nullary main_c (constantI S_ 32 1#32),
    nullary main_c_4 (constantI S_ 32 8#32),
    TRef.unary (TRef.of (T := ⟨S_, .i32⟩) main_c) (TRef.of (T := ⟨S_, .f32⟩) main_call3_v0) (sitofp .f32),
    TRef.unary (TRef.of (T := ⟨S_, .f32⟩) main_call3_v0) (TRef.of (T := ⟨S16384x1, .f32⟩) main_call3_v1) (broadcastInDim S16384x1 ![] bcast_S_S16384x1),
    TRef.binary (TRef.of (T := ⟨S16384x1, .f32⟩) main_call3_v1) (TRef.of (T := ⟨S16384x1, .f32⟩) main_v31) (TRef.of (T := ⟨S16384x1, .f32⟩) main_call3_v2) maximumf,
    TRef.unary (TRef.of (T := ⟨S_, .i32⟩) main_c_4) (TRef.of (T := ⟨S_, .f32⟩) main_call3_v3) (sitofp .f32),
    TRef.unary (TRef.of (T := ⟨S_, .f32⟩) main_call3_v3) (TRef.of (T := ⟨S16384x1, .f32⟩) main_call3_v4) (broadcastInDim S16384x1 ![] bcast_S_S16384x1),
    TRef.binary (TRef.of (T := ⟨S16384x1, .f32⟩) main_call3_v4) (TRef.of (T := ⟨S16384x1, .f32⟩) main_call3_v2) (TRef.of (T := ⟨S16384x1, .f32⟩) main_v32) minimumf,
    unary main_v32 main_v33 (fptosi 32 : (⟨S16384x1, .f32⟩ : BufTy).Contents (Elt F) → (⟨S16384x1, .i32⟩ : BufTy).Contents (Elt F)) ]

/-- The buffers that `opsCount` writes. -/
abbrev opsCountW : List (Ref sig .tc) :=
  [main_v19, main_v20, main_v21, main_v22, main_v23, main_v24, main_cst_1, main_v25, main_v26, main_cst_2, main_v27, main_v28, main_cst_3, main_v29, main_v30, main_v31, main_c, main_c_4, main_call3_v0, main_call3_v1, main_call3_v2, main_call3_v3, main_call3_v4, main_v32, main_v33]

theorem opsCount_writes : (opsCount : List (HloOp τ sig (Elt F))).Forall fun op => op.writes ⊆ (opsCountW.map (Proc.devRef (τ := τ) .tc)).toFinset :=
  forall_writes_sub_of_map rfl

theorem opsCount_fresh : (opsCount : List (HloOp τ sig (Elt F))).Forall fun op => op.fresh = ∅ :=
  forall_fresh_of_map rfl

theorem opsCount_sub : (opsCount : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, and_self]

/-- The operations that compute the softmax scores and their running sums along a row. -/
abbrev opsScores : List (HloOp τ sig (Elt F)) :=
  [ unary main_v18 main_v34 ((transpose S256x1024 [1, 0] · transposes_S1024x256_S256x1024_1_0) : (⟨S1024x256, .f32⟩ : BufTy).Contents (Elt F) → (⟨S256x1024, .f32⟩ : BufTy).Contents (Elt F)),
    binary main_v9 main_v34 main_v35 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    nullary main_cst_5 (constant S_ .f32 0xFF800000#32),
    binary main_v35 main_cst_5 main_v36 ((fun x v => Host.reduce FloatOps.maximumf x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    nullary main_cst_6 (constant S_ .f32 0xFF800000#32),
    unary main_cst_6 main_v37 (broadcastInDim S16384 ![] bcast_S_S16384 : (⟨S_, .f32⟩ : BufTy).Contents (Elt F) → (⟨S16384, .f32⟩ : BufTy).Contents (Elt F)),
    binary main_v37 main_v36 main_v38 (maximumf : (⟨S16384, .f32⟩ : BufTy).Contents (Elt F) → (⟨S16384, .f32⟩ : BufTy).Contents (Elt F) → (⟨S16384, .f32⟩ : BufTy).Contents (Elt F)),
    unary main_v38 main_v39 (broadcastInDim S16384x1 ![0] bcast_S16384_S16384x1_0 : (⟨S16384, .f32⟩ : BufTy).Contents (Elt F) → (⟨S16384x1, .f32⟩ : BufTy).Contents (Elt F)),
    unary main_v39 main_v40 (broadcastInDim S16384x1024 ![0, 1] bcast_S16384x1_S16384x1024_0_1 : (⟨S16384x1, .f32⟩ : BufTy).Contents (Elt F) → (⟨S16384x1024, .f32⟩ : BufTy).Contents (Elt F)),
    binary main_v35 main_v40 main_v41 (subf : (⟨S16384x1024, .f32⟩ : BufTy).Contents (Elt F) → (⟨S16384x1024, .f32⟩ : BufTy).Contents (Elt F) → (⟨S16384x1024, .f32⟩ : BufTy).Contents (Elt F)),
    unary main_v41 main_v42 (Host.exp : (⟨S16384x1024, .f32⟩ : BufTy).Contents (Elt F) → (⟨S16384x1024, .f32⟩ : BufTy).Contents (Elt F)),
    nullary main_cst_7 (constant S_ .f32 0x00000000#32),
    binary main_v42 main_cst_7 main_v43 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v43 main_v44 (broadcastInDim S16384x1 ![0] bcast_S16384_S16384x1_0 : (⟨S16384, .f32⟩ : BufTy).Contents (Elt F) → (⟨S16384x1, .f32⟩ : BufTy).Contents (Elt F)),
    unary main_v44 main_v45 (broadcastInDim S16384x1024 ![0, 1] bcast_S16384x1_S16384x1024_0_1 : (⟨S16384x1, .f32⟩ : BufTy).Contents (Elt F) → (⟨S16384x1024, .f32⟩ : BufTy).Contents (Elt F)),
    binary main_v42 main_v45 main_v46 (Host.divf : (⟨S16384x1024, .f32⟩ : BufTy).Contents (Elt F) → (⟨S16384x1024, .f32⟩ : BufTy).Contents (Elt F) → (⟨S16384x1024, .f32⟩ : BufTy).Contents (Elt F)),
    TRef.nullary (TRef.of (T := ⟨S_, .f32⟩) main_call4_call0_cst) (constant S_ .f32 0x00000000#32),
    TRef.unary (TRef.of (T := ⟨S_, .f32⟩) main_call4_call0_cst) (TRef.of (T := ⟨S_, .f32⟩) main_call4_call0_v0) (broadcastInDim S_ ![] bcast_S_S_),
    TRef.binary (TRef.of (T := ⟨S16384x1024, .f32⟩) main_v46) (TRef.of (T := ⟨S_, .f32⟩) main_call4_call0_v0) (TRef.of (T := ⟨S16384x1024, .f32⟩) main_v47) (fun x v => Host.reduceWindowAdd ![1, 1024] ![1, 1] ![0, 1023] ![0, 0] x v reduceWindows_S16384x1024_S16384x1024_w1s1p0_0_w1024s1p1023_0 h_S_),
    nullary main_v48 (iotaInDim S8 32 0),
    nullary main_c_8 (constantI S_ 32 1#32) ]

/-- The buffers that `opsScores` writes. -/
abbrev opsScoresW : List (Ref sig .tc) :=
  [main_v34, main_v35, main_cst_5, main_v36, main_cst_6, main_v37, main_v38, main_v39, main_v40, main_v41, main_v42, main_cst_7, main_v43, main_v44, main_v45, main_v46, main_call4_call0_cst, main_call4_call0_v0, main_v47, main_v48, main_c_8]

theorem opsScores_writes : (opsScores : List (HloOp τ sig (Elt F))).Forall fun op => op.writes ⊆ (opsScoresW.map (Proc.devRef (τ := τ) .tc)).toFinset :=
  forall_writes_sub_of_map rfl

theorem opsScores_fresh : (opsScores : List (HloOp τ sig (Elt F))).Forall fun op => op.fresh = ∅ :=
  forall_fresh_of_map rfl

theorem opsScores_sub : (opsScores : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, and_self]

/-- The operations that compute the mask of active draws and the picked columns. -/
abbrev opsPick : List (HloOp τ sig (Elt F)) :=
  [ unary main_c_8 main_v49 (broadcastInDim S8 ![] bcast_S_S8 : (⟨S_, .i32⟩ : BufTy).Contents (Elt F) → (⟨S8, .i32⟩ : BufTy).Contents (Elt F)),
    binary main_v49 main_v48 main_v50 (addi : (⟨S8, .i32⟩ : BufTy).Contents (Elt F) → (⟨S8, .i32⟩ : BufTy).Contents (Elt F) → (⟨S8, .i32⟩ : BufTy).Contents (Elt F)),
    unary main_v50 main_v51 (broadcastInDim S1x8 ![1] bcast_S8_S1x8_1 : (⟨S8, .i32⟩ : BufTy).Contents (Elt F) → (⟨S1x8, .i32⟩ : BufTy).Contents (Elt F)),
    unary main_v33 main_v52 (broadcastInDim S16384x8 ![0, 1] bcast_S16384x1_S16384x8_0_1 : (⟨S16384x1, .i32⟩ : BufTy).Contents (Elt F) → (⟨S16384x8, .i32⟩ : BufTy).Contents (Elt F)),
    unary main_v51 main_v53 (broadcastInDim S16384x8 ![0, 1] bcast_S1x8_S16384x8_0_1 : (⟨S1x8, .i32⟩ : BufTy).Contents (Elt F) → (⟨S16384x8, .i32⟩ : BufTy).Contents (Elt F)),
    binary main_v52 main_v53 main_v54 (cmpi .sge : (⟨S16384x8, .i32⟩ : BufTy).Contents (Elt F) → (⟨S16384x8, .i32⟩ : BufTy).Contents (Elt F) → (⟨S16384x8, .i1⟩ : BufTy).Contents (Elt F)),
    unary main_v54 main_v55 (uitofp .f32 : (⟨S16384x8, .i1⟩ : BufTy).Contents (Elt F) → (⟨S16384x8, .f32⟩ : BufTy).Contents (Elt F)),
    unary main_v47 main_v56 (broadcastInDim S16384x1x1024 ![0, 2] bcast_S16384x1024_S16384x1x1024_0_2 : (⟨S16384x1024, .f32⟩ : BufTy).Contents (Elt F) → (⟨S16384x1x1024, .f32⟩ : BufTy).Contents (Elt F)),
    unary main_arg9 main_v57 (broadcastInDim S16384x8x1 ![0, 1] bcast_S16384x8_S16384x8x1_0_1 : (⟨S16384x8, .f32⟩ : BufTy).Contents (Elt F) → (⟨S16384x8x1, .f32⟩ : BufTy).Contents (Elt F)),
    unary main_v56 main_v58 (broadcastInDim S16384x8x1024 ![0, 1, 2] bcast_S16384x1x1024_S16384x8x1024_0_1_2 : (⟨S16384x1x1024, .f32⟩ : BufTy).Contents (Elt F) → (⟨S16384x8x1024, .f32⟩ : BufTy).Contents (Elt F)),
    unary main_v57 main_v59 (broadcastInDim S16384x8x1024 ![0, 1, 2] bcast_S16384x8x1_S16384x8x1024_0_1_2 : (⟨S16384x8x1, .f32⟩ : BufTy).Contents (Elt F) → (⟨S16384x8x1024, .f32⟩ : BufTy).Contents (Elt F)),
    binary main_v58 main_v59 main_v60 (cmpf .ogt : (⟨S16384x8x1024, .f32⟩ : BufTy).Contents (Elt F) → (⟨S16384x8x1024, .f32⟩ : BufTy).Contents (Elt F) → (⟨S16384x8x1024, .i1⟩ : BufTy).Contents (Elt F)),
    unary main_v60 main_v61 (uitofp .f32 : (⟨S16384x8x1024, .i1⟩ : BufTy).Contents (Elt F) → (⟨S16384x8x1024, .f32⟩ : BufTy).Contents (Elt F)),
    TRef.nullary (TRef.of (T := ⟨S16384x8x1024, .i32⟩) main_call5_v0) (iotaInDim S16384x8x1024 32 2),
    TRef.nullary (TRef.of (T := ⟨S_, .f32⟩) main_call5_cst) (constant S_ .f32 0xFF800000#32),
    TRef.nullary (TRef.of (T := ⟨S_, .i32⟩) main_call5_c) (constantI S_ 32 0#32),
    TRef.quaternary (TRef.of (T := ⟨S16384x8x1024, .f32⟩) main_v61) (TRef.of (T := ⟨S16384x8x1024, .i32⟩) main_call5_v0) (TRef.of (T := ⟨S_, .f32⟩) main_call5_cst) (TRef.of (T := ⟨S_, .i32⟩) main_call5_c) (TRef.of (T := ⟨S16384x8, .f32⟩) main_call5_v1_0) (fun x y u v => fun j => (Host.argReduce reducer_argmax_f32_i32 x y u v reducesTo_S16384x8x1024_S16384x8_d2 h_S_ j).1),
    TRef.quaternary (TRef.of (T := ⟨S16384x8x1024, .f32⟩) main_v61) (TRef.of (T := ⟨S16384x8x1024, .i32⟩) main_call5_v0) (TRef.of (T := ⟨S_, .f32⟩) main_call5_cst) (TRef.of (T := ⟨S_, .i32⟩) main_call5_c) (TRef.of (T := ⟨S16384x8, .i32⟩) main_v62) (fun x y u v => fun j => (Host.argReduce reducer_argmax_f32_i32 x y u v reducesTo_S16384x8x1024_S16384x8_d2 h_S_ j).2) ]

/-- The buffers that `opsPick` writes. -/
abbrev opsPickW : List (Ref sig .tc) :=
  [main_v49, main_v50, main_v51, main_v52, main_v53, main_v54, main_v55, main_v56, main_v57, main_v58, main_v59, main_v60, main_v61, main_call5_v0, main_call5_cst, main_call5_c, main_call5_v1_0, main_v62]

theorem opsPick_writes : (opsPick : List (HloOp τ sig (Elt F))).Forall fun op => op.writes ⊆ (opsPickW.map (Proc.devRef (τ := τ) .tc)).toFinset :=
  forall_writes_sub_of_map rfl

theorem opsPick_fresh : (opsPick : List (HloOp τ sig (Elt F))).Forall fun op => op.fresh = ∅ :=
  forall_fresh_of_map rfl

theorem opsPick_sub : (opsPick : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, and_self]

/-- The operations that compute the counts per column. -/
abbrev opsScatter : List (HloOp τ sig (Elt F)) :=
  [ nullary main_v63 (iotaInDim S16384 32 0),
    unary main_v63 main_v64 (broadcastInDim S16384x1 ![0] bcast_S16384_S16384x1_0 : (⟨S16384, .i32⟩ : BufTy).Contents (Elt F) → (⟨S16384x1, .i32⟩ : BufTy).Contents (Elt F)),
    nullary main_cst_9 (constant S_ .f32 0x00000000#32),
    unary main_cst_9 main_v65 (broadcastInDim S16384x1024 ![] bcast_S_S16384x1024 : (⟨S_, .f32⟩ : BufTy).Contents (Elt F) → (⟨S16384x1024, .f32⟩ : BufTy).Contents (Elt F)),
    nullary main_c_10 (constantI S_ 32 0#32),
    unary main_c_10 main_v66 (broadcastInDim S16384x1 ![] bcast_S_S16384x1 : (⟨S_, .i32⟩ : BufTy).Contents (Elt F) → (⟨S16384x1, .i32⟩ : BufTy).Contents (Elt F)),
    binary main_v64 main_v66 main_v67 (cmpi .slt : (⟨S16384x1, .i32⟩ : BufTy).Contents (Elt F) → (⟨S16384x1, .i32⟩ : BufTy).Contents (Elt F) → (⟨S16384x1, .i1⟩ : BufTy).Contents (Elt F)),
    nullary main_c_11 (constantI S_ 32 16384#32),
    unary main_c_11 main_v68 (broadcastInDim S16384x1 ![] bcast_S_S16384x1 : (⟨S_, .i32⟩ : BufTy).Contents (Elt F) → (⟨S16384x1, .i32⟩ : BufTy).Contents (Elt F)),
    binary main_v64 main_v68 main_v69 (addi : (⟨S16384x1, .i32⟩ : BufTy).Contents (Elt F) → (⟨S16384x1, .i32⟩ : BufTy).Contents (Elt F) → (⟨S16384x1, .i32⟩ : BufTy).Contents (Elt F)),
    ternary main_v67 main_v69 main_v64 main_v70 (select : (⟨S16384x1, .i1⟩ : BufTy).Contents (Elt F) → (⟨S16384x1, .i32⟩ : BufTy).Contents (Elt F) → (⟨S16384x1, .i32⟩ : BufTy).Contents (Elt F) → (⟨S16384x1, .i32⟩ : BufTy).Contents (Elt F)),
    nullary main_c_12 (constantI S_ 32 0#32),
    unary main_c_12 main_v71 (broadcastInDim S16384x8 ![] bcast_S_S16384x8 : (⟨S_, .i32⟩ : BufTy).Contents (Elt F) → (⟨S16384x8, .i32⟩ : BufTy).Contents (Elt F)),
    binary main_v62 main_v71 main_v72 (cmpi .slt : (⟨S16384x8, .i32⟩ : BufTy).Contents (Elt F) → (⟨S16384x8, .i32⟩ : BufTy).Contents (Elt F) → (⟨S16384x8, .i1⟩ : BufTy).Contents (Elt F)),
    nullary main_c_13 (constantI S_ 32 1024#32),
    unary main_c_13 main_v73 (broadcastInDim S16384x8 ![] bcast_S_S16384x8 : (⟨S_, .i32⟩ : BufTy).Contents (Elt F) → (⟨S16384x8, .i32⟩ : BufTy).Contents (Elt F)),
    binary main_v62 main_v73 main_v74 (addi : (⟨S16384x8, .i32⟩ : BufTy).Contents (Elt F) → (⟨S16384x8, .i32⟩ : BufTy).Contents (Elt F) → (⟨S16384x8, .i32⟩ : BufTy).Contents (Elt F)),
    ternary main_v72 main_v74 main_v62 main_v75 (select : (⟨S16384x8, .i1⟩ : BufTy).Contents (Elt F) → (⟨S16384x8, .i32⟩ : BufTy).Contents (Elt F) → (⟨S16384x8, .i32⟩ : BufTy).Contents (Elt F) → (⟨S16384x8, .i32⟩ : BufTy).Contents (Elt F)),
    unary main_v70 main_v76 (broadcastInDim S16384x8 ![0, 1] bcast_S16384x1_S16384x8_0_1 : (⟨S16384x1, .i32⟩ : BufTy).Contents (Elt F) → (⟨S16384x8, .i32⟩ : BufTy).Contents (Elt F)),
    unary main_v76 main_v77 (broadcastInDim S16384x8x1 ![0, 1] bcast_S16384x8_S16384x8x1_0_1 : (⟨S16384x8, .i32⟩ : BufTy).Contents (Elt F) → (⟨S16384x8x1, .i32⟩ : BufTy).Contents (Elt F)),
    unary main_v75 main_v78 (broadcastInDim S16384x8x1 ![0, 1] bcast_S16384x8_S16384x8x1_0_1 : (⟨S16384x8, .i32⟩ : BufTy).Contents (Elt F) → (⟨S16384x8x1, .i32⟩ : BufTy).Contents (Elt F)),
    binary main_v77 main_v78 main_v79 (joinCoords (F := F)),
    ternary main_v65 main_v79 main_v55 main_v80 ((fun x i u => Host.scatterAdd scatter_S16384x1024_S16384x8x2_S16384x8_n_01_01_2 x i u) : (⟨S16384x1024, .f32⟩ : BufTy).Contents (Elt F) → (⟨S16384x8x2, .i32⟩ : BufTy).Contents (Elt F) → (⟨S16384x8, .f32⟩ : BufTy).Contents (Elt F) → (⟨S16384x1024, .f32⟩ : BufTy).Contents (Elt F)) ]

/-- The buffers that `opsScatter` writes. -/
abbrev opsScatterW : List (Ref sig .tc) :=
  [main_v63, main_v64, main_cst_9, main_v65, main_c_10, main_v66, main_v67, main_c_11, main_v68, main_v69, main_v70, main_c_12, main_v71, main_v72, main_c_13, main_v73, main_v74, main_v75, main_v76, main_v77, main_v78, main_v79, main_v80]

theorem opsScatter_writes : (opsScatter : List (HloOp τ sig (Elt F))).Forall fun op => op.writes ⊆ (opsScatterW.map (Proc.devRef (τ := τ) .tc)).toFinset :=
  forall_writes_sub_of_map rfl

theorem opsScatter_fresh : (opsScatter : List (HloOp τ sig (Elt F))).Forall fun op => op.fresh = ∅ :=
  forall_fresh_of_map rfl

theorem opsScatter_sub : (opsScatter : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, and_self]

/-- The operations that compute the logarithm of each count's factorial and the first Lanczos operands. -/
abbrev opsFact : List (HloOp τ sig (Elt F)) :=
  [ nullary main_v81 (iotaInDim S7 32 0),
    nullary main_c_14 (constantI S_ 32 2#32),
    unary main_c_14 main_v82 (broadcastInDim S7 ![] bcast_S_S7 : (⟨S_, .i32⟩ : BufTy).Contents (Elt F) → (⟨S7, .i32⟩ : BufTy).Contents (Elt F)),
    binary main_v82 main_v81 main_v83 (addi : (⟨S7, .i32⟩ : BufTy).Contents (Elt F) → (⟨S7, .i32⟩ : BufTy).Contents (Elt F) → (⟨S7, .i32⟩ : BufTy).Contents (Elt F)),
    unary main_v83 main_v84 (sitofp .f32 : (⟨S7, .i32⟩ : BufTy).Contents (Elt F) → (⟨S7, .f32⟩ : BufTy).Contents (Elt F)),
    unary main_v80 main_v85 (broadcastInDim S16384x1024x1 ![0, 1] bcast_S16384x1024_S16384x1024x1_0_1 : (⟨S16384x1024, .f32⟩ : BufTy).Contents (Elt F) → (⟨S16384x1024x1, .f32⟩ : BufTy).Contents (Elt F)),
    unary main_v84 main_v86 (broadcastInDim S1x1x7 ![2] bcast_S7_S1x1x7_2 : (⟨S7, .f32⟩ : BufTy).Contents (Elt F) → (⟨S1x1x7, .f32⟩ : BufTy).Contents (Elt F)),
    unary main_v85 main_v87 (broadcastInDim S16384x1024x7 ![0, 1, 2] bcast_S16384x1024x1_S16384x1024x7_0_1_2 : (⟨S16384x1024x1, .f32⟩ : BufTy).Contents (Elt F) → (⟨S16384x1024x7, .f32⟩ : BufTy).Contents (Elt F)),
    unary main_v86 main_v88 (broadcastInDim S16384x1024x7 ![0, 1, 2] bcast_S1x1x7_S16384x1024x7_0_1_2 : (⟨S1x1x7, .f32⟩ : BufTy).Contents (Elt F) → (⟨S16384x1024x7, .f32⟩ : BufTy).Contents (Elt F)),
    binary main_v87 main_v88 main_v89 (cmpf .oge : (⟨S16384x1024x7, .f32⟩ : BufTy).Contents (Elt F) → (⟨S16384x1024x7, .f32⟩ : BufTy).Contents (Elt F) → (⟨S16384x1024x7, .i1⟩ : BufTy).Contents (Elt F)),
    unary main_v84 main_v90 (Host.log : (⟨S7, .f32⟩ : BufTy).Contents (Elt F) → (⟨S7, .f32⟩ : BufTy).Contents (Elt F)),
    nullary main_cst_15 (constant S_ .f32 0x00000000#32),
    TRef.unary (TRef.of (T := ⟨S_, .f32⟩) main_cst_15) (TRef.of (T := ⟨S_, .f32⟩) main_call6_v0) id,
    TRef.unary (TRef.of (T := ⟨S7, .f32⟩) main_v90) (TRef.of (T := ⟨S16384x1024x7, .f32⟩) main_call6_v1) (broadcastInDim S16384x1024x7 ![2] bcast_S7_S16384x1024x7_2),
    TRef.unary (TRef.of (T := ⟨S_, .f32⟩) main_call6_v0) (TRef.of (T := ⟨S16384x1024x7, .f32⟩) main_call6_v2) (broadcastInDim S16384x1024x7 ![] bcast_S_S16384x1024x7),
    TRef.ternary (TRef.of (T := ⟨S16384x1024x7, .i1⟩) main_v89) (TRef.of (T := ⟨S16384x1024x7, .f32⟩) main_call6_v1) (TRef.of (T := ⟨S16384x1024x7, .f32⟩) main_call6_v2) (TRef.of (T := ⟨S16384x1024x7, .f32⟩) main_v91) select,
    nullary main_cst_16 (constant S_ .f32 0x00000000#32),
    binary main_v91 main_cst_16 main_v92 ((fun x v => Host.reduceAdd x v reducesTo_S16384x1024x7_S16384x1024_d2 h_S_) : (⟨S16384x1024x7, .f32⟩ : BufTy).Contents (Elt F) → (⟨S_, .f32⟩ : BufTy).Contents (Elt F) → (⟨S16384x1024, .f32⟩ : BufTy).Contents (Elt F)),
    nullary main_cst_17 (constant S_ .f32 0x3F800000#32),
    unary main_cst_17 main_v93 (broadcastInDim S16384x1 ![] bcast_S_S16384x1 : (⟨S_, .f32⟩ : BufTy).Contents (Elt F) → (⟨S16384x1, .f32⟩ : BufTy).Contents (Elt F)),
    binary main_v30 main_v93 main_v94 (addf : (⟨S16384x1, .f32⟩ : BufTy).Contents (Elt F) → (⟨S16384x1, .f32⟩ : BufTy).Contents (Elt F) → (⟨S16384x1, .f32⟩ : BufTy).Contents (Elt F)),
    nullary main_cst_18 (constant S_ .f32 0x3F800000#32),
    unary main_cst_18 main_v95 (broadcastInDim S16384x1 ![] bcast_S_S16384x1 : (⟨S_, .f32⟩ : BufTy).Contents (Elt F) → (⟨S16384x1, .f32⟩ : BufTy).Contents (Elt F)),
    binary main_v94 main_v95 main_v96 (addf : (⟨S16384x1, .f32⟩ : BufTy).Contents (Elt F) → (⟨S16384x1, .f32⟩ : BufTy).Contents (Elt F) → (⟨S16384x1, .f32⟩ : BufTy).Contents (Elt F)),
    nullary main_cst_19 (constant S_ .f32 0x42985C35#32),
    unary main_cst_19 main_v97 (broadcastInDim S16384x1 ![] bcast_S_S16384x1 : (⟨S_, .f32⟩ : BufTy).Contents (Elt F) → (⟨S16384x1, .f32⟩ : BufTy).Contents (Elt F)) ]

/-- The buffers that `opsFact` writes. -/
abbrev opsFactW : List (Ref sig .tc) :=
  [main_v81, main_c_14, main_v82, main_v83, main_v84, main_v85, main_v86, main_v87, main_v88, main_v89, main_v90, main_cst_15, main_call6_v0, main_call6_v1, main_call6_v2, main_v91, main_cst_16, main_v92, main_cst_17, main_v93, main_v94, main_cst_18, main_v95, main_v96, main_cst_19, main_v97]

theorem opsFact_writes : (opsFact : List (HloOp τ sig (Elt F))).Forall fun op => op.writes ⊆ (opsFactW.map (Proc.devRef (τ := τ) .tc)).toFinset :=
  forall_writes_sub_of_map rfl

theorem opsFact_fresh : (opsFact : List (HloOp τ sig (Elt F))).Forall fun op => op.fresh = ∅ :=
  forall_fresh_of_map rfl

theorem opsFact_sub : (opsFact : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, and_self]

/-- The operations that compute the Lanczos series, and the factorial terms summed along a row. -/
abbrev opsGamma : List (HloOp τ sig (Elt F)) :=
  [ binary main_v97 main_v96 main_v98 (Host.divf : (⟨S16384x1, .f32⟩ : BufTy).Contents (Elt F) → (⟨S16384x1, .f32⟩ : BufTy).Contents (Elt F) → (⟨S16384x1, .f32⟩ : BufTy).Contents (Elt F)),
    nullary main_cst_20 (constant S_ .f32 0x3F800000#32),
    unary main_cst_20 main_v99 (broadcastInDim S16384x1 ![] bcast_S_S16384x1 : (⟨S_, .f32⟩ : BufTy).Contents (Elt F) → (⟨S16384x1, .f32⟩ : BufTy).Contents (Elt F)),
    binary main_v99 main_v98 main_v100 (addf : (⟨S16384x1, .f32⟩ : BufTy).Contents (Elt F) → (⟨S16384x1, .f32⟩ : BufTy).Contents (Elt F) → (⟨S16384x1, .f32⟩ : BufTy).Contents (Elt F)),
    nullary main_cst_21 (constant S_ .f32 0x40000000#32),
    unary main_cst_21 main_v101 (broadcastInDim S16384x1 ![] bcast_S_S16384x1 : (⟨S_, .f32⟩ : BufTy).Contents (Elt F) → (⟨S16384x1, .f32⟩ : BufTy).Contents (Elt F)),
    binary main_v94 main_v101 main_v102 (addf : (⟨S16384x1, .f32⟩ : BufTy).Contents (Elt F) → (⟨S16384x1, .f32⟩ : BufTy).Contents (Elt F) → (⟨S16384x1, .f32⟩ : BufTy).Contents (Elt F)),
    nullary main_cst_22 (constant S_ .f32 0x42AD02B9#32),
    unary main_cst_22 main_v103 (broadcastInDim S16384x1 ![] bcast_S_S16384x1 : (⟨S_, .f32⟩ : BufTy).Contents (Elt F) → (⟨S16384x1, .f32⟩ : BufTy).Contents (Elt F)),
    binary main_v103 main_v102 main_v104 (Host.divf : (⟨S16384x1, .f32⟩ : BufTy).Contents (Elt F) → (⟨S16384x1, .f32⟩ : BufTy).Contents (Elt F) → (⟨S16384x1, .f32⟩ : BufTy).Contents (Elt F)),
    binary main_v100 main_v104 main_v105 (subf : (⟨S16384x1, .f32⟩ : BufTy).Contents (Elt F) → (⟨S16384x1, .f32⟩ : BufTy).Contents (Elt F) → (⟨S16384x1, .f32⟩ : BufTy).Contents (Elt F)),
    nullary main_cst_23 (constant S_ .f32 0x40400000#32),
    unary main_cst_23 main_v106 (broadcastInDim S16384x1 ![] bcast_S_S16384x1 : (⟨S_, .f32⟩ : BufTy).Contents (Elt F) → (⟨S16384x1, .f32⟩ : BufTy).Contents (Elt F)),
    binary main_v94 main_v106 main_v107 (addf : (⟨S16384x1, .f32⟩ : BufTy).Contents (Elt F) → (⟨S16384x1, .f32⟩ : BufTy).Contents (Elt F) → (⟨S16384x1, .f32⟩ : BufTy).Contents (Elt F)),
    nullary main_cst_24 (constant S_ .f32 0x41C01CE0#32),
    unary main_cst_24 main_v108 (broadcastInDim S16384x1 ![] bcast_S_S16384x1 : (⟨S_, .f32⟩ : BufTy).Contents (Elt F) → (⟨S16384x1, .f32⟩ : BufTy).Contents (Elt F)),
    binary main_v108 main_v107 main_v109 (Host.divf : (⟨S16384x1, .f32⟩ : BufTy).Contents (Elt F) → (⟨S16384x1, .f32⟩ : BufTy).Contents (Elt F) → (⟨S16384x1, .f32⟩ : BufTy).Contents (Elt F)),
    binary main_v105 main_v109 main_v110 (addf : (⟨S16384x1, .f32⟩ : BufTy).Contents (Elt F) → (⟨S16384x1, .f32⟩ : BufTy).Contents (Elt F) → (⟨S16384x1, .f32⟩ : BufTy).Contents (Elt F)),
    nullary main_cst_25 (constant S_ .f32 0x40800000#32),
    unary main_cst_25 main_v111 (broadcastInDim S16384x1 ![] bcast_S_S16384x1 : (⟨S_, .f32⟩ : BufTy).Contents (Elt F) → (⟨S16384x1, .f32⟩ : BufTy).Contents (Elt F)),
    binary main_v94 main_v111 main_v112 (addf : (⟨S16384x1, .f32⟩ : BufTy).Contents (Elt F) → (⟨S16384x1, .f32⟩ : BufTy).Contents (Elt F) → (⟨S16384x1, .f32⟩ : BufTy).Contents (Elt F)),
    nullary main_cst_26 (constant S_ .f32 0x3F9DA9A4#32),
    unary main_cst_26 main_v113 (broadcastInDim S16384x1 ![] bcast_S_S16384x1 : (⟨S_, .f32⟩ : BufTy).Contents (Elt F) → (⟨S16384x1, .f32⟩ : BufTy).Contents (Elt F)),
    binary main_v113 main_v112 main_v114 (Host.divf : (⟨S16384x1, .f32⟩ : BufTy).Contents (Elt F) → (⟨S16384x1, .f32⟩ : BufTy).Contents (Elt F) → (⟨S16384x1, .f32⟩ : BufTy).Contents (Elt F)),
    binary main_v110 main_v114 main_v115 (subf : (⟨S16384x1, .f32⟩ : BufTy).Contents (Elt F) → (⟨S16384x1, .f32⟩ : BufTy).Contents (Elt F) → (⟨S16384x1, .f32⟩ : BufTy).Contents (Elt F)),
    nullary main_cst_27 (constant S_ .f32 0x40A00000#32),
    unary main_cst_27 main_v116 (broadcastInDim S16384x1 ![] bcast_S_S16384x1 : (⟨S_, .f32⟩ : BufTy).Contents (Elt F) → (⟨S16384x1, .f32⟩ : BufTy).Contents (Elt F)),
    binary main_v94 main_v116 main_v117 (addf : (⟨S16384x1, .f32⟩ : BufTy).Contents (Elt F) → (⟨S16384x1, .f32⟩ : BufTy).Contents (Elt F) → (⟨S16384x1, .f32⟩ : BufTy).Contents (Elt F)),
    nullary main_cst_28 (constant S_ .f32 0x3A9E6B99#32),
    unary main_cst_28 main_v118 (broadcastInDim S16384x1 ![] bcast_S_S16384x1 : (⟨S_, .f32⟩ : BufTy).Contents (Elt F) → (⟨S16384x1, .f32⟩ : BufTy).Contents (Elt F)),
    binary main_v118 main_v117 main_v119 (Host.divf : (⟨S16384x1, .f32⟩ : BufTy).Contents (Elt F) → (⟨S16384x1, .f32⟩ : BufTy).Contents (Elt F) → (⟨S16384x1, .f32⟩ : BufTy).Contents (Elt F)),
    binary main_v115 main_v119 main_v120 (addf : (⟨S16384x1, .f32⟩ : BufTy).Contents (Elt F) → (⟨S16384x1, .f32⟩ : BufTy).Contents (Elt F) → (⟨S16384x1, .f32⟩ : BufTy).Contents (Elt F)),
    nullary main_cst_29 (constant S_ .f32 0x40C00000#32),
    unary main_cst_29 main_v121 (broadcastInDim S16384x1 ![] bcast_S_S16384x1 : (⟨S_, .f32⟩ : BufTy).Contents (Elt F) → (⟨S16384x1, .f32⟩ : BufTy).Contents (Elt F)),
    binary main_v94 main_v121 main_v122 (addf : (⟨S16384x1, .f32⟩ : BufTy).Contents (Elt F) → (⟨S16384x1, .f32⟩ : BufTy).Contents (Elt F) → (⟨S16384x1, .f32⟩ : BufTy).Contents (Elt F)),
    nullary main_cst_30 (constant S_ .f32 0x36B508C1#32),
    unary main_cst_30 main_v123 (broadcastInDim S16384x1 ![] bcast_S_S16384x1 : (⟨S_, .f32⟩ : BufTy).Contents (Elt F) → (⟨S16384x1, .f32⟩ : BufTy).Contents (Elt F)),
    binary main_v123 main_v122 main_v124 (Host.divf : (⟨S16384x1, .f32⟩ : BufTy).Contents (Elt F) → (⟨S16384x1, .f32⟩ : BufTy).Contents (Elt F) → (⟨S16384x1, .f32⟩ : BufTy).Contents (Elt F)),
    binary main_v120 main_v124 main_v125 (subf : (⟨S16384x1, .f32⟩ : BufTy).Contents (Elt F) → (⟨S16384x1, .f32⟩ : BufTy).Contents (Elt F) → (⟨S16384x1, .f32⟩ : BufTy).Contents (Elt F)),
    nullary main_cst_31 (constant S_ .f32 0x3F000000#32),
    unary main_cst_31 main_v126 (broadcastInDim S16384x1 ![] bcast_S_S16384x1 : (⟨S_, .f32⟩ : BufTy).Contents (Elt F) → (⟨S16384x1, .f32⟩ : BufTy).Contents (Elt F)),
    binary main_v94 main_v126 main_v127 (addf : (⟨S16384x1, .f32⟩ : BufTy).Contents (Elt F) → (⟨S16384x1, .f32⟩ : BufTy).Contents (Elt F) → (⟨S16384x1, .f32⟩ : BufTy).Contents (Elt F)),
    nullary main_cst_32 (constant S_ .f32 0x40B00000#32),
    unary main_cst_32 main_v128 (broadcastInDim S16384x1 ![] bcast_S_S16384x1 : (⟨S_, .f32⟩ : BufTy).Contents (Elt F) → (⟨S16384x1, .f32⟩ : BufTy).Contents (Elt F)),
    binary main_v94 main_v128 main_v129 (addf : (⟨S16384x1, .f32⟩ : BufTy).Contents (Elt F) → (⟨S16384x1, .f32⟩ : BufTy).Contents (Elt F) → (⟨S16384x1, .f32⟩ : BufTy).Contents (Elt F)),
    unary main_v129 main_v130 (Host.log : (⟨S16384x1, .f32⟩ : BufTy).Contents (Elt F) → (⟨S16384x1, .f32⟩ : BufTy).Contents (Elt F)),
    binary main_v127 main_v130 main_v131 (mulf : (⟨S16384x1, .f32⟩ : BufTy).Contents (Elt F) → (⟨S16384x1, .f32⟩ : BufTy).Contents (Elt F) → (⟨S16384x1, .f32⟩ : BufTy).Contents (Elt F)),
    nullary main_cst_33 (constant S_ .f32 0x40B00000#32),
    unary main_cst_33 main_v132 (broadcastInDim S16384x1 ![] bcast_S_S16384x1 : (⟨S_, .f32⟩ : BufTy).Contents (Elt F) → (⟨S16384x1, .f32⟩ : BufTy).Contents (Elt F)),
    binary main_v94 main_v132 main_v133 (addf : (⟨S16384x1, .f32⟩ : BufTy).Contents (Elt F) → (⟨S16384x1, .f32⟩ : BufTy).Contents (Elt F) → (⟨S16384x1, .f32⟩ : BufTy).Contents (Elt F)),
    binary main_v131 main_v133 main_v134 (subf : (⟨S16384x1, .f32⟩ : BufTy).Contents (Elt F) → (⟨S16384x1, .f32⟩ : BufTy).Contents (Elt F) → (⟨S16384x1, .f32⟩ : BufTy).Contents (Elt F)),
    nullary main_cst_34 (constant S_ .f32 0x40206C99#32),
    unary main_cst_34 main_v135 (broadcastInDim S16384x1 ![] bcast_S_S16384x1 : (⟨S_, .f32⟩ : BufTy).Contents (Elt F) → (⟨S16384x1, .f32⟩ : BufTy).Contents (Elt F)),
    binary main_v135 main_v125 main_v136 (mulf : (⟨S16384x1, .f32⟩ : BufTy).Contents (Elt F) → (⟨S16384x1, .f32⟩ : BufTy).Contents (Elt F) → (⟨S16384x1, .f32⟩ : BufTy).Contents (Elt F)),
    binary main_v136 main_v94 main_v137 (Host.divf : (⟨S16384x1, .f32⟩ : BufTy).Contents (Elt F) → (⟨S16384x1, .f32⟩ : BufTy).Contents (Elt F) → (⟨S16384x1, .f32⟩ : BufTy).Contents (Elt F)),
    unary main_v137 main_v138 (Host.log : (⟨S16384x1, .f32⟩ : BufTy).Contents (Elt F) → (⟨S16384x1, .f32⟩ : BufTy).Contents (Elt F)),
    binary main_v134 main_v138 main_v139 (addf : (⟨S16384x1, .f32⟩ : BufTy).Contents (Elt F) → (⟨S16384x1, .f32⟩ : BufTy).Contents (Elt F) → (⟨S16384x1, .f32⟩ : BufTy).Contents (Elt F)),
    nullary main_cst_35 (constant S_ .f32 0x00000000#32),
    binary main_v92 main_cst_35 main_v140 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v140 main_v141 (broadcastInDim S16384x1 ![0] bcast_S16384_S16384x1_0 : (⟨S16384, .f32⟩ : BufTy).Contents (Elt F) → (⟨S16384x1, .f32⟩ : BufTy).Contents (Elt F)) ]

/-- The buffers that `opsGamma` writes. -/
abbrev opsGammaW : List (Ref sig .tc) :=
  [main_v98, main_cst_20, main_v99, main_v100, main_cst_21, main_v101, main_v102, main_cst_22, main_v103, main_v104, main_v105, main_cst_23, main_v106, main_v107, main_cst_24, main_v108, main_v109, main_v110, main_cst_25, main_v111, main_v112, main_cst_26, main_v113, main_v114, main_v115, main_cst_27, main_v116, main_v117, main_cst_28, main_v118, main_v119, main_v120, main_cst_29, main_v121, main_v122, main_cst_30, main_v123, main_v124, main_v125, main_cst_31, main_v126, main_v127, main_cst_32, main_v128, main_v129, main_v130, main_v131, main_cst_33, main_v132, main_v133, main_v134, main_cst_34, main_v135, main_v136, main_v137, main_v138, main_v139, main_cst_35, main_v140, main_v141]

theorem opsGamma_writes : (opsGamma : List (HloOp τ sig (Elt F))).Forall fun op => op.writes ⊆ (opsGammaW.map (Proc.devRef (τ := τ) .tc)).toFinset :=
  forall_writes_sub_of_map rfl

theorem opsGamma_fresh : (opsGamma : List (HloOp τ sig (Elt F))).Forall fun op => op.fresh = ∅ :=
  forall_fresh_of_map rfl

theorem opsGamma_sub : (opsGamma : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, and_self]

/-- The operations that compute the second result. -/
abbrev opsOut : List (HloOp τ sig (Elt F)) :=
  [ binary main_v139 main_v141 main_v142 (subf : (⟨S16384x1, .f32⟩ : BufTy).Contents (Elt F) → (⟨S16384x1, .f32⟩ : BufTy).Contents (Elt F) → (⟨S16384x1, .f32⟩ : BufTy).Contents (Elt F)),
    unary main_v46 main_v143 (Host.log : (⟨S16384x1024, .f32⟩ : BufTy).Contents (Elt F) → (⟨S16384x1024, .f32⟩ : BufTy).Contents (Elt F)),
    binary main_v80 main_v143 main_v144 (mulf : (⟨S16384x1024, .f32⟩ : BufTy).Contents (Elt F) → (⟨S16384x1024, .f32⟩ : BufTy).Contents (Elt F) → (⟨S16384x1024, .f32⟩ : BufTy).Contents (Elt F)),
    nullary main_cst_36 (constant S_ .f32 0x00000000#32),
    binary main_v144 main_cst_36 main_v145 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v145 main_v146 (broadcastInDim S16384x1 ![0] bcast_S16384_S16384x1_0 : (⟨S16384, .f32⟩ : BufTy).Contents (Elt F) → (⟨S16384x1, .f32⟩ : BufTy).Contents (Elt F)),
    binary main_v142 main_v146 main_v147 (addf : (⟨S16384x1, .f32⟩ : BufTy).Contents (Elt F) → (⟨S16384x1, .f32⟩ : BufTy).Contents (Elt F) → (⟨S16384x1, .f32⟩ : BufTy).Contents (Elt F)) ]

/-- The buffers that `opsOut` writes. -/
abbrev opsOutW : List (Ref sig .tc) :=
  [main_v142, main_v143, main_v144, main_cst_36, main_v145, main_v146, main_v147]

theorem opsOut_writes : (opsOut : List (HloOp τ sig (Elt F))).Forall fun op => op.writes ⊆ (opsOutW.map (Proc.devRef (τ := τ) .tc)).toFinset :=
  forall_writes_sub_of_map rfl

theorem opsOut_fresh : (opsOut : List (HloOp τ sig (Elt F))).Forall fun op => op.fresh = ∅ :=
  forall_fresh_of_map rfl

theorem opsOut_sub : (opsOut : List (HloOp τ sig (Elt F))).Forall fun op => op.bufs ⊆ tcRefs τ sig := by
  simp only [List.Forall, TRef.nullary, TRef.unary, TRef.binary, TRef.ternary, TRef.quaternary, nullary_bufs_sub, unary_bufs_sub,
    binary_bufs_sub, ternary_bufs_sub, quaternary_bufs_sub, and_self]

/-- All the operations, in program order. -/
abbrev ops : List (HloOp τ sig (Elt F)) :=
  (opsEmbed ++ (opsCount ++ opsScores)) ++ ((opsPick ++ (opsScatter ++ opsFact)) ++ (opsGamma ++ opsOut))

/-- The called function for the row norms of the query and task embedding is the line of its operations. -/
theorem call_norm : fn_norm.body (F := F) (.of main_v4) main_call0 = seq [
    TRef.binary (TRef.of (T := ⟨S16384x256, .f32⟩) main_v4) (TRef.of (T := ⟨S16384x256, .f32⟩) main_v4) (TRef.of (T := ⟨S16384x256, .f32⟩) main_call0_v0) mulf,
    TRef.nullary (TRef.of (T := ⟨S_, .f32⟩) main_call0_cst) (constant S_ .f32 0x00000000#32),
    TRef.binary (TRef.of (T := ⟨S16384x256, .f32⟩) main_call0_v0) (TRef.of (T := ⟨S_, .f32⟩) main_call0_cst) (TRef.of (T := ⟨S16384, .f32⟩) main_call0_v1) (fun x v => Host.reduceAdd x v reducesTo_S16384x256_S16384_d1 h_S_),
    TRef.unary (TRef.of (T := ⟨S16384, .f32⟩) main_call0_v1) (TRef.of (T := ⟨S16384x1, .f32⟩) main_call0_v2) (broadcastInDim S16384x1 ![0] bcast_S16384_S16384x1_0),
    TRef.unary (TRef.of (T := ⟨S16384x1, .f32⟩) main_call0_v2) (TRef.of (T := ⟨S16384x1, .f32⟩) main_v5) Host.sqrt] := rfl

/-- The called function for the row norms of the agents' embedding is the line of its operations. -/
theorem call_norm_0 : fn_norm_0.body (F := F) (.of main_v13) main_call1 = seq [
    TRef.binary (TRef.of (T := ⟨S1024x256, .f32⟩) main_v13) (TRef.of (T := ⟨S1024x256, .f32⟩) main_v13) (TRef.of (T := ⟨S1024x256, .f32⟩) main_call1_v0) mulf,
    TRef.nullary (TRef.of (T := ⟨S_, .f32⟩) main_call1_cst) (constant S_ .f32 0x00000000#32),
    TRef.binary (TRef.of (T := ⟨S1024x256, .f32⟩) main_call1_v0) (TRef.of (T := ⟨S_, .f32⟩) main_call1_cst) (TRef.of (T := ⟨S1024, .f32⟩) main_call1_v1) (fun x v => Host.reduceAdd x v reducesTo_S1024x256_S1024_d1 h_S_),
    TRef.unary (TRef.of (T := ⟨S1024, .f32⟩) main_call1_v1) (TRef.of (T := ⟨S1024x1, .f32⟩) main_call1_v2) (broadcastInDim S1024x1 ![0] bcast_S1024_S1024x1_0),
    TRef.unary (TRef.of (T := ⟨S1024x1, .f32⟩) main_call1_v2) (TRef.of (T := ⟨S1024x1, .f32⟩) main_v14) Host.sqrt] := rfl

/-- The called function for the rounding is the line of its operations. -/
theorem call_round : fn_round.body (F := F) (.of main_v30) main_call2 = seq [
    TRef.unary (TRef.of (T := ⟨S16384x1, .f32⟩) main_v30) (TRef.of (T := ⟨S16384x1, .f32⟩) main_v31) Host.roundeven] := rfl

/-- The called function for the clipping is the line of its operations. -/
theorem call_clip : fn_clip.body (F := F) (.of main_v31) (.of main_c) (.of main_c_4) main_call3 = seq [
    TRef.unary (TRef.of (T := ⟨S_, .i32⟩) main_c) (TRef.of (T := ⟨S_, .f32⟩) main_call3_v0) (sitofp .f32),
    TRef.unary (TRef.of (T := ⟨S_, .f32⟩) main_call3_v0) (TRef.of (T := ⟨S16384x1, .f32⟩) main_call3_v1) (broadcastInDim S16384x1 ![] bcast_S_S16384x1),
    TRef.binary (TRef.of (T := ⟨S16384x1, .f32⟩) main_call3_v1) (TRef.of (T := ⟨S16384x1, .f32⟩) main_v31) (TRef.of (T := ⟨S16384x1, .f32⟩) main_call3_v2) maximumf,
    TRef.unary (TRef.of (T := ⟨S_, .i32⟩) main_c_4) (TRef.of (T := ⟨S_, .f32⟩) main_call3_v3) (sitofp .f32),
    TRef.unary (TRef.of (T := ⟨S_, .f32⟩) main_call3_v3) (TRef.of (T := ⟨S16384x1, .f32⟩) main_call3_v4) (broadcastInDim S16384x1 ![] bcast_S_S16384x1),
    TRef.binary (TRef.of (T := ⟨S16384x1, .f32⟩) main_call3_v4) (TRef.of (T := ⟨S16384x1, .f32⟩) main_call3_v2) (TRef.of (T := ⟨S16384x1, .f32⟩) main_v32) minimumf] := rfl

/-- The called function for the running sums is the line of its operations. -/
theorem call_cumsum : fn_cumsum.body (F := F) (.of main_v46) main_call4 = seq [
    TRef.nullary (TRef.of (T := ⟨S_, .f32⟩) main_call4_call0_cst) (constant S_ .f32 0x00000000#32),
    TRef.unary (TRef.of (T := ⟨S_, .f32⟩) main_call4_call0_cst) (TRef.of (T := ⟨S_, .f32⟩) main_call4_call0_v0) (broadcastInDim S_ ![] bcast_S_S_),
    TRef.binary (TRef.of (T := ⟨S16384x1024, .f32⟩) main_v46) (TRef.of (T := ⟨S_, .f32⟩) main_call4_call0_v0) (TRef.of (T := ⟨S16384x1024, .f32⟩) main_v47) (fun x v => Host.reduceWindowAdd ![1, 1024] ![1, 1] ![0, 1023] ![0, 0] x v reduceWindows_S16384x1024_S16384x1024_w1s1p0_0_w1024s1p1023_0 h_S_)] := rfl

/-- The called function for the first maximum is the line of its operations. -/
theorem call_argmax : fn_argmax.body (F := F) (.of main_v61) main_call5 = seq [
    TRef.nullary (TRef.of (T := ⟨S16384x8x1024, .i32⟩) main_call5_v0) (iotaInDim S16384x8x1024 32 2),
    TRef.nullary (TRef.of (T := ⟨S_, .f32⟩) main_call5_cst) (constant S_ .f32 0xFF800000#32),
    TRef.nullary (TRef.of (T := ⟨S_, .i32⟩) main_call5_c) (constantI S_ 32 0#32),
    TRef.quaternary (TRef.of (T := ⟨S16384x8x1024, .f32⟩) main_v61) (TRef.of (T := ⟨S16384x8x1024, .i32⟩) main_call5_v0) (TRef.of (T := ⟨S_, .f32⟩) main_call5_cst) (TRef.of (T := ⟨S_, .i32⟩) main_call5_c) (TRef.of (T := ⟨S16384x8, .f32⟩) main_call5_v1_0) (fun x y u v => fun j => (Host.argReduce reducer_argmax_f32_i32 x y u v reducesTo_S16384x8x1024_S16384x8_d2 h_S_ j).1),
    TRef.quaternary (TRef.of (T := ⟨S16384x8x1024, .f32⟩) main_v61) (TRef.of (T := ⟨S16384x8x1024, .i32⟩) main_call5_v0) (TRef.of (T := ⟨S_, .f32⟩) main_call5_cst) (TRef.of (T := ⟨S_, .i32⟩) main_call5_c) (TRef.of (T := ⟨S16384x8, .i32⟩) main_v62) (fun x y u v => fun j => (Host.argReduce reducer_argmax_f32_i32 x y u v reducesTo_S16384x8x1024_S16384x8_d2 h_S_ j).2)] := rfl

/-- The called function for the selection is the line of its operations. -/
theorem call_where : fn_where.body (F := F) (.of main_v89) (.of main_v90) (.of main_cst_15) main_call6 = seq [
    TRef.unary (TRef.of (T := ⟨S_, .f32⟩) main_cst_15) (TRef.of (T := ⟨S_, .f32⟩) main_call6_v0) id,
    TRef.unary (TRef.of (T := ⟨S7, .f32⟩) main_v90) (TRef.of (T := ⟨S16384x1024x7, .f32⟩) main_call6_v1) (broadcastInDim S16384x1024x7 ![2] bcast_S7_S16384x1024x7_2),
    TRef.unary (TRef.of (T := ⟨S_, .f32⟩) main_call6_v0) (TRef.of (T := ⟨S16384x1024x7, .f32⟩) main_call6_v2) (broadcastInDim S16384x1024x7 ![] bcast_S_S16384x1024x7),
    TRef.ternary (TRef.of (T := ⟨S16384x1024x7, .i1⟩) main_v89) (TRef.of (T := ⟨S16384x1024x7, .f32⟩) main_call6_v1) (TRef.of (T := ⟨S16384x1024x7, .f32⟩) main_call6_v2) (TRef.of (T := ⟨S16384x1024x7, .f32⟩) main_v91) select] := rfl

set_option maxHeartbeats 2000000 in
theorem main_part0_eq (c : Dev nD) : main_part0 (F := F) c = seq (opsEmbed ++ (opsCount ++ opsScores)) := by
  simp only [main_part0, call_norm, call_norm_0, call_round, call_clip, call_cumsum, seq_bind_seqK]
  rfl
set_option maxHeartbeats 2000000 in
theorem main_part1_eq (c : Dev nD) : main_part1 (F := F) c = seq (opsPick ++ (opsScatter ++ opsFact)) := by
  simp only [main_part1, call_argmax, call_where, seq_bind_seqK]
  rfl
theorem main_part2_eq (c : Dev nD) : main_part2 (F := F) c = seq opsGamma := rfl
theorem main_part3_eq (c : Dev nD) : main_part3 (F := F) c = seq opsOut := rfl

/-- The program is the sequence of its operations. -/
theorem main_eq (c : Dev nD) : main (F := F) c = seq ops := by
  rw [ops, seq_append, seq_append (opsPick ++ (opsScatter ++ opsFact)), seq_append opsGamma, ← main_part0_eq c, ← main_part1_eq c,
    ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  exact ⟨⟨opsEmbed_sub, opsCount_sub, opsScores_sub⟩, ⟨opsPick_sub, opsScatter_sub, opsFact_sub⟩, opsGamma_sub, opsOut_sub⟩

theorem ops_fresh : (ops : List (HloOp τ sig (Elt F))).Forall fun op => op.fresh = ∅ := by
  simp only [ops, List.forall_append]
  exact ⟨⟨opsEmbed_fresh, opsCount_fresh, opsScores_fresh⟩, ⟨opsPick_fresh, opsScatter_fresh, opsFact_fresh⟩, opsGamma_fresh, opsOut_fresh⟩

end Cert.ReferenceIdeal.Hand

end
-- ==== Proof.RefRun.lean ====
/- What the reference program leaves in its buffers: named functions of the argument arrays for the embeddings, the expected count,
   the scores, their running sums, the picks, the counts per column and the log probabilities, and the run of the whole program with
   its two results stated by them. -/
module

public import proofs.«01_k».proof.Proof.RefOps

@[expose] public section

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A column that holds one number everywhere. -/
def col (b : BitVec 32) : FVec F S16384x1 .f32 := broadcastInDim S16384x1 ![] bcast_S_S16384x1 (constant S_ .f32 b)

/-- The linear map of queries and tasks, the bias added. -/
def rQraw (q t : FVec F S16384x1024 .f32) (w : FVec F S2048x256 .f32) (b : FVec F S256 .f32) : FVec F S16384x256 .f32 :=
  addf (Host.dotGeneral dot_S16384x2048_S2048x256_S16384x256_1_0_0_1_n_n none (joinFeatures (F := F) q t) w)
    (broadcastInDim S16384x256 ![0, 1] bcast_S1x256_S16384x256_0_1 (broadcastInDim S1x256 ![1] bcast_S256_S1x256_1 b))

/-- Rows divided by their norm, the norm at least a small number. -/
def rQn (x : FVec F S16384x256 .f32) : FVec F S16384x256 .f32 :=
  Host.divf x (broadcastInDim S16384x256 ![0, 1] bcast_S16384x1_S16384x256_0_1 (maximumf (Host.sqrt (broadcastInDim S16384x1 ![0] bcast_S16384_S16384x1_0
    (Host.reduceAdd (mulf x x) (constant S_ .f32 0x00000000#32) reducesTo_S16384x256_S16384_d1 h_S_))) (col 0x2B8CBCCC#32)))

/-- The linear map of the agents, the bias added. -/
def rLraw (l : FVec F S1024x1024 .f32) (w : FVec F S1024x256 .f32) (b : FVec F S256 .f32) : FVec F S1024x256 .f32 :=
  addf (Host.dotGeneral dot_S1024x1024_S1024x256_S1024x256_1_0_0_1_n_n none l w)
    (broadcastInDim S1024x256 ![0, 1] bcast_S1x256_S1024x256_0_1 (broadcastInDim S1x256 ![1] bcast_S256_S1x256_1 b))

/-- The agents' rows divided by their norm, the norm at least a small number. -/
def rLn (x : FVec F S1024x256 .f32) : FVec F S1024x256 .f32 :=
  Host.divf x (broadcastInDim S1024x256 ![0, 1] bcast_S1024x1_S1024x256_0_1 (maximumf (Host.sqrt (broadcastInDim S1024x1 ![0] bcast_S1024_S1024x1_0
    (Host.reduceAdd (mulf x x) (constant S_ .f32 0x00000000#32) reducesTo_S1024x256_S1024_d1 h_S_))) (broadcastInDim S1024x1 ![] bcast_S_S1024x1 (constant S_ .f32 0x2B8CBCCC#32))))

/-- The expected number of agents: eight times the logistic function of a linear form. -/
def rLnf (qt : FVec F S16384x256 .f32) (w : FVec F S256x1 .f32) (b : FVec F S1 .f32) : FVec F S16384x1 .f32 :=
  mulf (Host.divf (col 0x3F800000#32) (addf (col 0x3F800000#32) (Host.exp (Host.negf (addf
    (Host.dotGeneral dot_S16384x256_S256x1_S16384x1_1_0_0_1_n_n none qt w)
    (broadcastInDim S16384x1 ![0, 1] bcast_S1x1_S16384x1_0_1 (broadcastInDim S1x1 ![1] bcast_S1_S1x1_1 b))))))) (col 0x41000000#32)

/-- The expected number rounded and clipped to the whole numbers from 1 to 8. -/
def rNum (l : FVec F S16384x1 .f32) : IVec S16384x1 32 :=
  fptosi 32 (minimumf (broadcastInDim S16384x1 ![] bcast_S_S16384x1 (sitofp .f32 (constantI S_ 32 8#32)))
    (maximumf (broadcastInDim S16384x1 ![] bcast_S_S16384x1 (sitofp .f32 (constantI S_ 32 1#32))) (Host.roundeven l)))

/-- A number per row, repeated along the row. -/
def rAlong (x : FVec F S16384 .f32) : FVec F S16384x1024 .f32 :=
  broadcastInDim S16384x1024 ![0, 1] bcast_S16384x1_S16384x1024_0_1 (broadcastInDim S16384x1 ![0] bcast_S16384_S16384x1_0 x)

/-- The inner products of the two embeddings. -/
def rLogits (qt : FVec F S16384x256 .f32) (le : FVec F S1024x256 .f32) : FVec F S16384x1024 .f32 :=
  Host.dotGeneral dot_S16384x256_S256x1024_S16384x1024_1_0_0_1_n_n none qt (transpose S256x1024 [1, 0] le transposes_S1024x256_S256x1024_1_0)

/-- The exponentials of a row's inner products, the row's largest one subtracted. -/
def rExp (x : FVec F S16384x1024 .f32) : FVec F S16384x1024 .f32 :=
  Host.exp (subf x (rAlong (maximumf (broadcastInDim S16384 ![] bcast_S_S16384 (constant S_ .f32 0xFF800000#32))
    (Host.reduce FloatOps.maximumf x (constant S_ .f32 0xFF800000#32) reducesTo_S16384x1024_S16384_d1 h_S_))))

/-- Each number of a row divided by the row's sum. -/
def rShare (e : FVec F S16384x1024 .f32) : FVec F S16384x1024 .f32 :=
  Host.divf e (rAlong (Host.reduceAdd e (constant S_ .f32 0x00000000#32) reducesTo_S16384x1024_S16384_d1 h_S_))

/-- The running sums along a row. -/
def rCum (s : FVec F S16384x1024 .f32) : FVec F S16384x1024 .f32 :=
  Host.reduceWindowAdd ![1, 1024] ![1, 1] ![0, 1023] ![0, 0] s (broadcastInDim S_ ![] bcast_S_S_ (constant S_ .f32 0x00000000#32))
    reduceWindows_S16384x1024_S16384x1024_w1s1p0_0_w1024s1p1023_0 h_S_

/-- For every draw, one where the running sum exceeds it and zero elsewhere. -/
def rExceeds (cum : FVec F S16384x1024 .f32) (r : FVec F S16384x8 .f32) : FVec F S16384x8x1024 .f32 :=
  uitofp .f32 (cmpf .ogt (broadcastInDim S16384x8x1024 ![0, 1, 2] bcast_S16384x1x1024_S16384x8x1024_0_1_2 (broadcastInDim S16384x1x1024 ![0, 2] bcast_S16384x1024_S16384x1x1024_0_2 cum))
    (broadcastInDim S16384x8x1024 ![0, 1, 2] bcast_S16384x8x1_S16384x8x1024_0_1_2 (broadcastInDim S16384x8x1 ![0, 1] bcast_S16384x8_S16384x8x1_0_1 r)))

/-- The column each draw picks: the first with the largest entry. -/
def rIdx (x : FVec F S16384x8x1024 .f32) : IVec S16384x8 32 :=
  fun j => (Host.argReduce reducer_argmax_f32_i32 x (iotaInDim S16384x8x1024 32 2) (constant S_ .f32 0xFF800000#32) (constantI S_ 32 0#32) reducesTo_S16384x8x1024_S16384x8_d2 h_S_ j).2

/-- One for each draw whose number, counted from 1, is at most the row's count. -/
def rMask (n : IVec S16384x1 32) : FVec F S16384x8 .f32 :=
  uitofp .f32 (cmpi .sge (broadcastInDim S16384x8 ![0, 1] bcast_S16384x1_S16384x8_0_1 n) (broadcastInDim S16384x8 ![0, 1] bcast_S1x8_S16384x8_0_1 (broadcastInDim S1x8 ![1] bcast_S8_S1x8_1
    (addi (broadcastInDim S8 ![] bcast_S_S8 (constantI S_ 32 1#32)) (iotaInDim S8 32 0)))))

/-- The row numbers, each repeated for every draw. -/
def rRows : IVec S16384x8x1 32 :=
  broadcastInDim S16384x8x1 ![0, 1] bcast_S16384x8_S16384x8x1_0_1 (broadcastInDim S16384x8 ![0, 1] bcast_S16384x1_S16384x8_0_1
    (select (cmpi .slt (broadcastInDim S16384x1 ![0] bcast_S16384_S16384x1_0 (iotaInDim S16384 32 0)) (broadcastInDim S16384x1 ![] bcast_S_S16384x1 (constantI S_ 32 0#32)))
      (addi (broadcastInDim S16384x1 ![0] bcast_S16384_S16384x1_0 (iotaInDim S16384 32 0)) (broadcastInDim S16384x1 ![] bcast_S_S16384x1 (constantI S_ 32 16384#32)))
      (broadcastInDim S16384x1 ![0] bcast_S16384_S16384x1_0 (iotaInDim S16384 32 0))))

/-- The column numbers, a negative one counted from the end. -/
def rCols (i : IVec S16384x8 32) : IVec S16384x8x1 32 :=
  broadcastInDim S16384x8x1 ![0, 1] bcast_S16384x8_S16384x8x1_0_1
    (select (cmpi .slt i (broadcastInDim S16384x8 ![] bcast_S_S16384x8 (constantI S_ 32 0#32))) (addi i (broadcastInDim S16384x8 ![] bcast_S_S16384x8 (constantI S_ 32 1024#32))) i)

/-- How often each column is picked by an active draw. -/
def rSel (i : IVec S16384x8 32) (mask : FVec F S16384x8 .f32) : FVec F S16384x1024 .f32 :=
  Host.scatterAdd scatter_S16384x1024_S16384x8x2_S16384x8_n_01_01_2 (broadcastInDim S16384x1024 ![] bcast_S_S16384x1024 (constant S_ .f32 0x00000000#32))
    (joinCoords (F := F) rRows (rCols i)) mask

/-- The whole numbers from 2 to 8. -/
def rTwoToEight : FVec F S7 .f32 := sitofp .f32 (addi (broadcastInDim S7 ![] bcast_S_S7 (constantI S_ 32 2#32)) (iotaInDim S7 32 0))

/-- The logarithm of each count's factorial: the sum of the logarithms of the numbers from 2 up to the count. -/
def rFact (sel : FVec F S16384x1024 .f32) : FVec F S16384x1024 .f32 :=
  Host.reduceAdd (select (cmpf .oge
      (broadcastInDim S16384x1024x7 ![0, 1, 2] bcast_S16384x1024x1_S16384x1024x7_0_1_2 (broadcastInDim S16384x1024x1 ![0, 1] bcast_S16384x1024_S16384x1024x1_0_1 sel))
      (broadcastInDim S16384x1024x7 ![0, 1, 2] bcast_S1x1x7_S16384x1024x7_0_1_2 (broadcastInDim S1x1x7 ![2] bcast_S7_S1x1x7_2 (rTwoToEight (F := F)))))
    (broadcastInDim S16384x1024x7 ![2] bcast_S7_S16384x1024x7_2 (Host.log (rTwoToEight (F := F))))
    (broadcastInDim S16384x1024x7 ![] bcast_S_S16384x1024x7 (constant S_ .f32 0x00000000#32))) (constant S_ .f32 0x00000000#32) reducesTo_S16384x1024x7_S16384x1024_d2 h_S_

/-- One term of the Lanczos series: a coefficient over the argument moved by a whole number. -/
def rTerm (z : FVec F S16384x1 .f32) (a k : BitVec 32) : FVec F S16384x1 .f32 := Host.divf (col a) (addf z (col k))

/-- The Lanczos series. -/
def rSeries (z : FVec F S16384x1 .f32) : FVec F S16384x1 .f32 :=
  subf (addf (subf (addf (subf (addf (col 0x3F800000#32) (rTerm z 0x42985C35#32 0x3F800000#32)) (rTerm z 0x42AD02B9#32 0x40000000#32))
    (rTerm z 0x41C01CE0#32 0x40400000#32)) (rTerm z 0x3F9DA9A4#32 0x40800000#32)) (rTerm z 0x3A9E6B99#32 0x40A00000#32)) (rTerm z 0x36B508C1#32 0x40C00000#32)

/-- The logarithm of the gamma function by Lanczos' formula. -/
def rGamma (z : FVec F S16384x1 .f32) : FVec F S16384x1 .f32 :=
  addf (subf (mulf (addf z (col 0x3F000000#32)) (Host.log (addf z (col 0x40B00000#32)))) (addf z (col 0x40B00000#32)))
    (Host.log (Host.divf (mulf (col 0x40206C99#32) (rSeries z)) z))

/-- The sum of each row, as a column. -/
def rRowSum (x : FVec F S16384x1024 .f32) : FVec F S16384x1 .f32 :=
  broadcastInDim S16384x1 ![0] bcast_S16384_S16384x1_0 (Host.reduceAdd x (constant S_ .f32 0x00000000#32) reducesTo_S16384x1024_S16384_d1 h_S_)

/-- The log probabilities, from the two gamma parts, the counts and the scores. -/
def rOut (g f : FVec F S16384x1 .f32) (sel s : FVec F S16384x1024 .f32) : FVec F S16384x1 .f32 :=
  addf (subf g f) (rRowSum (mulf sel (Host.log s)))

/-! What each window leaves, whatever the buffers hold before it. -/

/-- The normalised embedding of queries and tasks. -/
theorem opsEmbed_v9 (V : Valuation τ sig (Elt F)) : after (opsEmbed (F := F)) V (Proc.devRef (τ := τ) .tc main_v9) = rQn (rQraw (V (Proc.devRef (τ := τ) .tc main_arg0)) (V (Proc.devRef (τ := τ) .tc main_arg1)) (V (Proc.devRef (τ := τ) .tc main_arg3)) (V (Proc.devRef (τ := τ) .tc main_arg4))) := by
  simp only [opsEmbed, TRef.binary, TRef.nullary, TRef.unary, TRef.ternary, TRef.quaternary, TRef.toBuf, TRef.ofBuf, cast_eq]
  after_results_simp
  rfl

/-- The normalised embedding of the agents. -/
theorem opsEmbed_v18 (V : Valuation τ sig (Elt F)) : after (opsEmbed (F := F)) V (Proc.devRef (τ := τ) .tc main_v18) = rLn (rLraw (V (Proc.devRef (τ := τ) .tc main_arg2)) (V (Proc.devRef (τ := τ) .tc main_arg5)) (V (Proc.devRef (τ := τ) .tc main_arg6))) := by
  simp only [opsEmbed, TRef.binary, TRef.nullary, TRef.unary, TRef.ternary, TRef.quaternary, TRef.toBuf, TRef.ofBuf, cast_eq]
  after_results_simp
  rfl

/-- The expected number of agents. -/
theorem opsCount_v30 (V : Valuation τ sig (Elt F)) : after (opsCount (F := F)) V (Proc.devRef (τ := τ) .tc main_v30) = rLnf (V (Proc.devRef (τ := τ) .tc main_v9)) (V (Proc.devRef (τ := τ) .tc main_arg7)) (V (Proc.devRef (τ := τ) .tc main_arg8)) := by
  simp only [opsCount, TRef.binary, TRef.nullary, TRef.unary, TRef.ternary, TRef.quaternary, TRef.toBuf, TRef.ofBuf, cast_eq]
  after_results_simp
  rfl

/-- The expected number rounded and clipped. -/
theorem opsCount_v33 (V : Valuation τ sig (Elt F)) : after (opsCount (F := F)) V (Proc.devRef (τ := τ) .tc main_v33) = rNum (rLnf (V (Proc.devRef (τ := τ) .tc main_v9)) (V (Proc.devRef (τ := τ) .tc main_arg7)) (V (Proc.devRef (τ := τ) .tc main_arg8))) := by
  simp only [opsCount, TRef.binary, TRef.nullary, TRef.unary, TRef.ternary, TRef.quaternary, TRef.toBuf, TRef.ofBuf, cast_eq]
  after_results_simp
  rfl

/-- The scores. -/
theorem opsScores_v46 (V : Valuation τ sig (Elt F)) : after (opsScores (F := F)) V (Proc.devRef (τ := τ) .tc main_v46) = rShare (rExp (rLogits (V (Proc.devRef (τ := τ) .tc main_v9)) (V (Proc.devRef (τ := τ) .tc main_v18)))) := by
  simp only [opsScores, TRef.binary, TRef.nullary, TRef.unary, TRef.ternary, TRef.quaternary, TRef.toBuf, TRef.ofBuf, cast_eq]
  after_results_simp
  rfl

/-- The running sums of the scores. -/
theorem opsScores_v47 (V : Valuation τ sig (Elt F)) : after (opsScores (F := F)) V (Proc.devRef (τ := τ) .tc main_v47) = rCum (rShare (rExp (rLogits (V (Proc.devRef (τ := τ) .tc main_v9)) (V (Proc.devRef (τ := τ) .tc main_v18))))) := by
  simp only [opsScores, TRef.binary, TRef.nullary, TRef.unary, TRef.ternary, TRef.quaternary, TRef.toBuf, TRef.ofBuf, cast_eq]
  after_results_simp
  rfl

/-- The numbers from 0 to 7. -/
theorem opsScores_v48 (V : Valuation τ sig (Elt F)) : after (opsScores (F := F)) V (Proc.devRef (τ := τ) .tc main_v48) = iotaInDim S8 32 0  := by
  simp only [opsScores, TRef.binary, TRef.nullary, TRef.unary, TRef.ternary, TRef.quaternary, TRef.toBuf, TRef.ofBuf, cast_eq]
  after_results_simp

/-- The number 1. -/
theorem opsScores_c_8 (V : Valuation τ sig (Elt F)) : after (opsScores (F := F)) V (Proc.devRef (τ := τ) .tc main_c_8) = constantI S_ 32 1#32  := by
  simp only [opsScores, TRef.binary, TRef.nullary, TRef.unary, TRef.ternary, TRef.quaternary, TRef.toBuf, TRef.ofBuf, cast_eq]
  after_results_simp

/-- The mask of active draws. -/
theorem opsPick_v55 (V : Valuation τ sig (Elt F)) (h : V (Proc.devRef (τ := τ) .tc main_v48) = (iotaInDim S8 32 0 : IVec S8 32)) (h' : V (Proc.devRef (τ := τ) .tc main_c_8) = (constantI S_ 32 1#32 : IVec S_ 32)) : after (opsPick (F := F)) V (Proc.devRef (τ := τ) .tc main_v55) = rMask (V (Proc.devRef (τ := τ) .tc main_v33)) := by
  simp only [opsPick, TRef.binary, TRef.nullary, TRef.unary, TRef.ternary, TRef.quaternary, TRef.toBuf, TRef.ofBuf, cast_eq]
  after_results_simp
  rw [h, h']
  rfl

/-- The picked columns. -/
theorem opsPick_v62 (V : Valuation τ sig (Elt F)) : after (opsPick (F := F)) V (Proc.devRef (τ := τ) .tc main_v62) = rIdx (F := F) (rExceeds (V (Proc.devRef (τ := τ) .tc main_v47)) (V (Proc.devRef (τ := τ) .tc main_arg9))) := by
  simp only [opsPick, TRef.binary, TRef.nullary, TRef.unary, TRef.ternary, TRef.quaternary, TRef.toBuf, TRef.ofBuf, cast_eq]
  after_results_simp
  rfl

/-- The counts per column. -/
theorem opsScatter_v80 (V : Valuation τ sig (Elt F)) : after (opsScatter (F := F)) V (Proc.devRef (τ := τ) .tc main_v80) = rSel (V (Proc.devRef (τ := τ) .tc main_v62)) (V (Proc.devRef (τ := τ) .tc main_v55)) := by
  simp only [opsScatter, TRef.binary, TRef.nullary, TRef.unary, TRef.ternary, TRef.quaternary, TRef.toBuf, TRef.ofBuf, cast_eq]
  after_results_simp
  rfl

/-- The logarithms of the factorials. -/
theorem opsFact_v92 (V : Valuation τ sig (Elt F)) : after (opsFact (F := F)) V (Proc.devRef (τ := τ) .tc main_v92) = rFact (V (Proc.devRef (τ := τ) .tc main_v80)) := by
  simp only [opsFact, TRef.binary, TRef.nullary, TRef.unary, TRef.ternary, TRef.quaternary, TRef.toBuf, TRef.ofBuf, cast_eq]
  after_results_simp
  rfl

/-- The argument of the gamma function. -/
theorem opsFact_v94 (V : Valuation τ sig (Elt F)) : after (opsFact (F := F)) V (Proc.devRef (τ := τ) .tc main_v94) = addf (F := F) (s := S16384x1) (φ := .f32) (V (Proc.devRef (τ := τ) .tc main_v30)) (col 0x3F800000#32) := by
  simp only [opsFact, TRef.binary, TRef.nullary, TRef.unary, TRef.ternary, TRef.quaternary, TRef.toBuf, TRef.ofBuf, cast_eq]
  after_results_simp
  rfl

/-- The argument of the gamma function, 1 added. -/
theorem opsFact_v96 (V : Valuation τ sig (Elt F)) : after (opsFact (F := F)) V (Proc.devRef (τ := τ) .tc main_v96) = addf (F := F) (addf (s := S16384x1) (φ := .f32) (V (Proc.devRef (τ := τ) .tc main_v30)) (col 0x3F800000#32)) (col 0x3F800000#32) := by
  simp only [opsFact, TRef.binary, TRef.nullary, TRef.unary, TRef.ternary, TRef.quaternary, TRef.toBuf, TRef.ofBuf, cast_eq]
  after_results_simp
  rfl

/-- The first coefficient of the series. -/
theorem opsFact_v97 (V : Valuation τ sig (Elt F)) : after (opsFact (F := F)) V (Proc.devRef (τ := τ) .tc main_v97) = col (F := F) 0x42985C35#32  := by
  simp only [opsFact, TRef.binary, TRef.nullary, TRef.unary, TRef.ternary, TRef.quaternary, TRef.toBuf, TRef.ofBuf, cast_eq]
  after_results_simp
  rfl

/-- The logarithm of the gamma function. -/
theorem opsGamma_v139 (V : Valuation τ sig (Elt F)) (h : V (Proc.devRef (τ := τ) .tc main_v96) = addf (F := F) (s := S16384x1) (φ := .f32) (V (Proc.devRef (τ := τ) .tc main_v94)) (col 0x3F800000#32)) (h' : V (Proc.devRef (τ := τ) .tc main_v97) = col (F := F) 0x42985C35#32) : after (opsGamma (F := F)) V (Proc.devRef (τ := τ) .tc main_v139) = rGamma (V (Proc.devRef (τ := τ) .tc main_v94)) := by
  simp only [opsGamma, TRef.binary, TRef.nullary, TRef.unary, TRef.ternary, TRef.quaternary, TRef.toBuf, TRef.ofBuf, cast_eq]
  after_results_simp
  rw [h, h']
  rfl

/-- The logarithms of the factorials summed along a row. -/
theorem opsGamma_v141 (V : Valuation τ sig (Elt F)) : after (opsGamma (F := F)) V (Proc.devRef (τ := τ) .tc main_v141) = rRowSum (V (Proc.devRef (τ := τ) .tc main_v92)) := by
  simp only [opsGamma, TRef.binary, TRef.nullary, TRef.unary, TRef.ternary, TRef.quaternary, TRef.toBuf, TRef.ofBuf, cast_eq]
  after_results_simp
  rfl

/-- The log probabilities. -/
theorem opsOut_v147 (V : Valuation τ sig (Elt F)) : after (opsOut (F := F)) V (Proc.devRef (τ := τ) .tc main_v147) = rOut (V (Proc.devRef (τ := τ) .tc main_v139)) (V (Proc.devRef (τ := τ) .tc main_v141)) (V (Proc.devRef (τ := τ) .tc main_v80)) (V (Proc.devRef (τ := τ) .tc main_v46)) := by
  simp only [opsOut, TRef.binary, TRef.nullary, TRef.unary, TRef.ternary, TRef.quaternary, TRef.toBuf, TRef.ofBuf, cast_eq]
  after_results_simp
  rfl

theorem opsEmbed_keep (V : Valuation τ sig (Elt F)) (r : Ref sig .tc) (h : r ∉ opsEmbedW) : after (opsEmbed (F := F)) V (Proc.devRef .tc r) = V (Proc.devRef .tc r) :=
  after_of_writes_sub _ V opsEmbed_writes h

theorem opsCount_keep (V : Valuation τ sig (Elt F)) (r : Ref sig .tc) (h : r ∉ opsCountW) : after (opsCount (F := F)) V (Proc.devRef .tc r) = V (Proc.devRef .tc r) :=
  after_of_writes_sub _ V opsCount_writes h

theorem opsScores_keep (V : Valuation τ sig (Elt F)) (r : Ref sig .tc) (h : r ∉ opsScoresW) : after (opsScores (F := F)) V (Proc.devRef .tc r) = V (Proc.devRef .tc r) :=
  after_of_writes_sub _ V opsScores_writes h

theorem opsPick_keep (V : Valuation τ sig (Elt F)) (r : Ref sig .tc) (h : r ∉ opsPickW) : after (opsPick (F := F)) V (Proc.devRef .tc r) = V (Proc.devRef .tc r) :=
  after_of_writes_sub _ V opsPick_writes h

theorem opsScatter_keep (V : Valuation τ sig (Elt F)) (r : Ref sig .tc) (h : r ∉ opsScatterW) : after (opsScatter (F := F)) V (Proc.devRef .tc r) = V (Proc.devRef .tc r) :=
  after_of_writes_sub _ V opsScatter_writes h

theorem opsFact_keep (V : Valuation τ sig (Elt F)) (r : Ref sig .tc) (h : r ∉ opsFactW) : after (opsFact (F := F)) V (Proc.devRef .tc r) = V (Proc.devRef .tc r) :=
  after_of_writes_sub _ V opsFact_writes h

theorem opsGamma_keep (V : Valuation τ sig (Elt F)) (r : Ref sig .tc) (h : r ∉ opsGammaW) : after (opsGamma (F := F)) V (Proc.devRef .tc r) = V (Proc.devRef .tc r) :=
  after_of_writes_sub _ V opsGamma_writes h

theorem opsOut_keep (V : Valuation τ sig (Elt F)) (r : Ref sig .tc) (h : r ∉ opsOutW) : after (opsOut (F := F)) V (Proc.devRef .tc r) = V (Proc.devRef .tc r) :=
  after_of_writes_sub _ V opsOut_writes h

/-- The mask after the window that makes its two constants. -/
theorem mask_of_scores (V : Valuation τ sig (Elt F)) : after (opsPick (F := F)) (after opsScores V) (Proc.devRef (τ := τ) .tc main_v55) = rMask (V (Proc.devRef (τ := τ) .tc main_v33)) := by
  rw [opsPick_v55 _ (opsScores_v48 V) (opsScores_c_8 V), opsScores_keep V main_v33 (by decide)]

/-- The logarithm of the gamma function after the window that prepares its argument. -/
theorem gamma_of_fact (V : Valuation τ sig (Elt F)) : after (opsGamma (F := F)) (after opsFact V) (Proc.devRef (τ := τ) .tc main_v139)
    = rGamma (addf (F := F) (s := S16384x1) (φ := .f32) (V (Proc.devRef (τ := τ) .tc main_v30)) (col 0x3F800000#32)) := by
  rw [opsGamma_v139 _ (by rw [opsFact_v96, opsFact_v94]) (opsFact_v97 V), opsFact_v94]

/-- The embedding of queries and tasks, as a function of the arrays. -/
def refQt (a0 a1 : FVec F S16384x1024 .f32) (a3 : FVec F S2048x256 .f32) (a4 : FVec F S256 .f32) : FVec F S16384x256 .f32 := rQn (rQraw a0 a1 a3 a4)
/-- The embedding of the agents, as a function of the arrays. -/
def refLe (a2 : FVec F S1024x1024 .f32) (a5 : FVec F S1024x256 .f32) (a6 : FVec F S256 .f32) : FVec F S1024x256 .f32 := rLn (rLraw a2 a5 a6)
/-- The scores from the two embeddings. -/
def refScores (qt : FVec F S16384x256 .f32) (le : FVec F S1024x256 .f32) : FVec F S16384x1024 .f32 := rShare (rExp (rLogits qt le))
/-- The counts per column from the expected number, the scores and the draws. -/
def refSel (lnf : FVec F S16384x1 .f32) (s : FVec F S16384x1024 .f32) (r : FVec F S16384x8 .f32) : FVec F S16384x1024 .f32 :=
  rSel (rIdx (rExceeds (rCum s) r)) (rMask (rNum lnf))
/-- The log probabilities from the expected number, the scores and the counts. -/
def refLogp (lnf : FVec F S16384x1 .f32) (s sel : FVec F S16384x1024 .f32) : FVec F S16384x1 .f32 :=
  rOut (rGamma (addf lnf (col 0x3F800000#32))) (rRowSum (rFact sel)) sel s

set_option maxHeartbeats 2000000 in
/-- The first result, of the arrays the program starts with. -/
theorem ops_v80 (V : Valuation τ sig (Elt F)) : after (ops (F := F)) V (Proc.devRef (τ := τ) .tc main_v80)
    = refSel (rLnf (refQt (V (Proc.devRef (τ := τ) .tc main_arg0)) (V (Proc.devRef (τ := τ) .tc main_arg1)) (V (Proc.devRef (τ := τ) .tc main_arg3)) (V (Proc.devRef (τ := τ) .tc main_arg4))) (V (Proc.devRef (τ := τ) .tc main_arg7)) (V (Proc.devRef (τ := τ) .tc main_arg8))) (refScores (refQt (V (Proc.devRef (τ := τ) .tc main_arg0)) (V (Proc.devRef (τ := τ) .tc main_arg1)) (V (Proc.devRef (τ := τ) .tc main_arg3)) (V (Proc.devRef (τ := τ) .tc main_arg4))) (refLe (V (Proc.devRef (τ := τ) .tc main_arg2)) (V (Proc.devRef (τ := τ) .tc main_arg5)) (V (Proc.devRef (τ := τ) .tc main_arg6)))) (V (Proc.devRef (τ := τ) .tc main_arg9)) := by
  simp only [ops, after_append]
  rw [opsOut_keep _ main_v80 (by decide), opsGamma_keep _ main_v80 (by decide), opsFact_keep _ main_v80 (by decide), opsScatter_v80, opsPick_v62, mask_of_scores, opsScores_v47, opsScores_keep _ main_arg9 (by decide), opsCount_keep _ main_arg9 (by decide), opsEmbed_keep _ main_arg9 (by decide), opsCount_v33, opsCount_keep _ main_v9 (by decide), opsCount_keep _ main_v18 (by decide), opsEmbed_v9, opsEmbed_v18, opsEmbed_keep _ main_arg7 (by decide), opsEmbed_keep _ main_arg8 (by decide)]
  simp only [refSel, refScores, refQt, refLe, refLogp]

set_option maxHeartbeats 2000000 in
/-- The second result, of the arrays the program starts with. -/
theorem ops_v147 (V : Valuation τ sig (Elt F)) : after (ops (F := F)) V (Proc.devRef (τ := τ) .tc main_v147)
    = refLogp (rLnf (refQt (V (Proc.devRef (τ := τ) .tc main_arg0)) (V (Proc.devRef (τ := τ) .tc main_arg1)) (V (Proc.devRef (τ := τ) .tc main_arg3)) (V (Proc.devRef (τ := τ) .tc main_arg4))) (V (Proc.devRef (τ := τ) .tc main_arg7)) (V (Proc.devRef (τ := τ) .tc main_arg8))) (refScores (refQt (V (Proc.devRef (τ := τ) .tc main_arg0)) (V (Proc.devRef (τ := τ) .tc main_arg1)) (V (Proc.devRef (τ := τ) .tc main_arg3)) (V (Proc.devRef (τ := τ) .tc main_arg4))) (refLe (V (Proc.devRef (τ := τ) .tc main_arg2)) (V (Proc.devRef (τ := τ) .tc main_arg5)) (V (Proc.devRef (τ := τ) .tc main_arg6))))
        (refSel (rLnf (refQt (V (Proc.devRef (τ := τ) .tc main_arg0)) (V (Proc.devRef (τ := τ) .tc main_arg1)) (V (Proc.devRef (τ := τ) .tc main_arg3)) (V (Proc.devRef (τ := τ) .tc main_arg4))) (V (Proc.devRef (τ := τ) .tc main_arg7)) (V (Proc.devRef (τ := τ) .tc main_arg8))) (refScores (refQt (V (Proc.devRef (τ := τ) .tc main_arg0)) (V (Proc.devRef (τ := τ) .tc main_arg1)) (V (Proc.devRef (τ := τ) .tc main_arg3)) (V (Proc.devRef (τ := τ) .tc main_arg4))) (refLe (V (Proc.devRef (τ := τ) .tc main_arg2)) (V (Proc.devRef (τ := τ) .tc main_arg5)) (V (Proc.devRef (τ := τ) .tc main_arg6)))) (V (Proc.devRef (τ := τ) .tc main_arg9))) := by
  simp only [ops, after_append]
  rw [opsOut_v147, gamma_of_fact, opsGamma_v141, opsFact_v92, opsGamma_keep _ main_v80 (by decide), opsGamma_keep _ main_v46 (by decide), opsFact_keep _ main_v80 (by decide), opsFact_keep _ main_v46 (by decide), opsScatter_keep _ main_v46 (by decide), opsScatter_keep _ main_v30 (by decide), opsScatter_v80, opsPick_keep _ main_v46 (by decide), opsPick_keep _ main_v30 (by decide), opsPick_v62, mask_of_scores, opsScores_v46, opsScores_keep _ main_v30 (by decide), opsCount_v30, opsScores_v47, opsScores_keep _ main_arg9 (by decide), opsCount_keep _ main_arg9 (by decide), opsEmbed_keep _ main_arg9 (by decide), opsCount_v33, opsCount_keep _ main_v9 (by decide), opsCount_keep _ main_v18 (by decide), opsEmbed_v9, opsEmbed_v18, opsEmbed_keep _ main_arg7 (by decide), opsEmbed_keep _ main_arg8 (by decide)]
  simp only [refSel, refScores, refQt, refLe, refLogp]

/-- A buffer that no window writes keeps its contents. -/
theorem ops_keep (V : Valuation τ sig (Elt F)) (r : Ref sig .tc) (h : r ∉ opsEmbedW ∧ r ∉ opsCountW ∧ r ∉ opsScoresW ∧ r ∉ opsPickW ∧ r ∉ opsScatterW ∧ r ∉ opsFactW ∧ r ∉ opsGammaW ∧ r ∉ opsOutW) :
    after (ops (F := F)) V (Proc.devRef .tc r) = V (Proc.devRef .tc r) := by
  obtain ⟨h1, h2, h3, h4, h5, h6, h7, h8⟩ := h
  simp only [ops, after_append]
  rw [opsOut_keep _ _ h8, opsGamma_keep _ _ h7, opsFact_keep _ _ h6, opsScatter_keep _ _ h5, opsPick_keep _ _ h4, opsScores_keep _ _ h3, opsCount_keep _ _ h2, opsEmbed_keep _ _ h1]

/-- The reference program runs from any memory; it leaves the counts and the log probabilities in its two results and its arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_v80) = refSel (rLnf (refQt (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg7)) (m ((c.tc : Thread nD τ).loc main_arg8))) (refScores (refQt (m ((c.tc : Thread nD τ).loc main_arg0)) (m ((c.tc : Thread nD τ).loc main_arg1)) (m ((c.tc : Thread nD τ).loc main_arg3)) (m ((c.tc : Thread nD τ).loc main_arg4))) (refLe (m ((c.tc : Thread nD τ).loc main_arg2)) (m ((c.tc : Thread nD τ).loc main_arg5)) (m ((c.tc : Thread nD τ).loc main_arg6)))) (m ((c.tc : Thread nD τ).loc main_arg9))
      ∧ r.2.mem ((c.tc : Thread nD τ).loc main_v147) = refLogp (rLnf (refQt (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg7)) (m ((c.tc : Thread nD τ).loc main_arg8))) (refScores (refQt (m ((c.tc : Thread nD τ).loc main_arg0)) (m ((c.tc : Thread nD τ).loc main_arg1)) (m ((c.tc : Thread nD τ).loc main_arg3)) (m ((c.tc : Thread nD τ).loc main_arg4))) (refLe (m ((c.tc : Thread nD τ).loc main_arg2)) (m ((c.tc : Thread nD τ).loc main_arg5)) (m ((c.tc : Thread nD τ).loc main_arg6))))
          (refSel (rLnf (refQt (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg7)) (m ((c.tc : Thread nD τ).loc main_arg8))) (refScores (refQt (m ((c.tc : Thread nD τ).loc main_arg0)) (m ((c.tc : Thread nD τ).loc main_arg1)) (m ((c.tc : Thread nD τ).loc main_arg3)) (m ((c.tc : Thread nD τ).loc main_arg4))) (refLe (m ((c.tc : Thread nD τ).loc main_arg2)) (m ((c.tc : Thread nD τ).loc main_arg5)) (m ((c.tc : Thread nD τ).loc main_arg6)))) (m ((c.tc : Thread nD τ).loc main_arg9))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨⟨(h c main_v80).trans (ops_v80 _), (h c main_v147).trans (ops_v147 _)⟩,
      (h c main_arg0).trans (ops_keep _ _ (by decide)),
      (h c main_arg1).trans (ops_keep _ _ (by decide)),
      (h c main_arg2).trans (ops_keep _ _ (by decide)),
      (h c main_arg3).trans (ops_keep _ _ (by decide)),
      (h c main_arg4).trans (ops_keep _ _ (by decide)),
      (h c main_arg5).trans (ops_keep _ _ (by decide)),
      (h c main_arg6).trans (ops_keep _ _ (by decide)),
      (h c main_arg7).trans (ops_keep _ _ (by decide)),
      (h c main_arg8).trans (ops_keep _ _ (by decide)),
      (h c main_arg9).trans (ops_keep _ _ (by decide))⟩)
    (run_seq scopedRefs_eq scopedSems_eq defs main (fun _ => ops) main_eq (fun _ => ops_sub) m ρ fun _ => List.forall_iff_forall_mem.mp ops_fresh)

end Cert.ReferenceIdeal.Hand

end
-- ==== Proof.KerCum.lean ====
/- The running sums of a block of scores, as the body lays them out: eight blocks of 128 columns, each transposed, its rows added up
   one after another, the last row of the block before it added to every row, and transposed back. The body's own value is this
   function of its scores. -/
module

public import proofs.«01_k».proof.Proof.Gen.KernelIdeal.Frame.Region1
public import Idealize.ShloMosaic.Lib.Pipeline.ValueKit

@[expose] public section

set_option maxRecDepth 65536

noncomputable section

namespace Cert.KernelIdeal.Hand

open Cert.KernelIdeal Cert.KernelIdeal.Gen Idealize.ShloMosaic Idealize.ShloMosaic.TcCoe Idealize.SL.Sem

variable {F : FTy → Type} [FloatOps F]

/-- Each single row lies in a block of 128 rows. -/
theorem slicesRow (k : ℕ) (h : k < 128) : S128x256.Slices ![k, 0] S1x256 := by
  refine ⟨rfl, fun a => ?_⟩
  fin_cases a
  · show k + 1 ≤ 128; omega
  · show 0 + 256 ≤ 256; omega

/-- Row `k` of a block of 128 rows. -/
def blockRow (v : FVec F S128x256 .f32) (k : ℕ) (h : k < 128) : FVec F S1x256 .f32 :=
  extractStridedSlice S1x256 ![k, 0] v (slicesRow k h)

/-- The sum of the rows up to row `k`, added one at a time. -/
def prefixRow (v : FVec F S128x256 .f32) (k : ℕ) : k < 128 → FVec F S1x256 .f32 :=
  Nat.rec (motive := fun k => k < 128 → FVec F S1x256 .f32) (fun h => blockRow v 0 h)
    (fun k p h => addf (p (Nat.lt_of_succ_lt h)) (blockRow v (k + 1) h)) k

/-- 128 rows fill a block. -/
theorem rowsConcatenate : Shape.Concatenates (List.ofFn fun _ : Fin 128 => S1x256) S128x256 0 := by decide

/-- A tile of running sums: the prefix rows of the block, the offset added to each. -/
def tileRows (v : FVec F S128x256 .f32) (off : FVec F S1x256 .f32) : FVec F S128x256 .f32 :=
  addf (concatenate S128x256 0 (List.ofFn fun k : Fin 128 => ⟨S1x256, prefixRow v k.val k.isLt⟩) ((congrArg (Shape.Concatenates · S128x256 0) List.map_ofFn).mpr rowsConcatenate)) (broadcastTo S128x256 off broadcasts_S1x256_S128x256)

/-- A tile of running sums with the rows of the scores as its rows again. -/
def tile (v : FVec F S128x256 .f32) (off : FVec F S1x256 .f32) : FVec F S256x128 .f32 :=
  transpose S256x128 [1, 0] (tileRows v off) transposes_S128x256_p1_0_S256x128

/-- Each block of 128 columns lies in the scores. -/
theorem slicesBlock (b : ℕ) (h : b < 8) : S256x1024.Slices ![0, 128 * b] S256x128 := by
  refine ⟨rfl, fun a => ?_⟩
  fin_cases a
  · show 0 + 256 ≤ 256; omega
  · show 128 * b + 128 ≤ 1024; omega

/-- Columns `128 b … 128 b + 127` of the scores, transposed: one row per column. -/
def blockT (sc : FVec F S256x1024 .f32) (b : ℕ) (h : b < 8) : FVec F S128x256 .f32 :=
  transpose S128x256 [1, 0] (extractStridedSlice S256x128 ![0, 128 * b] sc (slicesBlock b h)) transposes_S256x128_p1_0_S128x256

/-- The last row of a tile of running sums. -/
def lastRow (v : FVec F S128x256 .f32) (off : FVec F S1x256 .f32) : FVec F S1x256 .f32 :=
  extractStridedSlice S1x256 ![127, 0] (tileRows v off) slices_S128x256_o127_0_S1x256

/-- The running sums at the end of the blocks before block `b`. -/
def carry (sc : FVec F S256x1024 .f32) (b : ℕ) : b ≤ 8 → FVec F S1x256 .f32 :=
  Nat.rec (motive := fun b => b ≤ 8 → FVec F S1x256 .f32) (fun _ => broadcast S1x256 (Scalar.ofBits .f32 0x00000000#32))
    (fun b p h => lastRow (blockT sc b h) (p (Nat.le_of_succ_le h))) b

/-- The running sums over block `b`. -/
def cumTile (sc : FVec F S256x1024 .f32) (b : ℕ) (h : b < 8) : FVec F S256x128 .f32 :=
  tile (blockT sc b h) (carry sc b h.le)

/-- Eight tiles side by side. -/
def sideBySide (t : Fin 8 → FVec F S256x128 .f32) : FVec F S256x1024 .f32 :=
  concatenate S256x1024 1 [⟨S256x128, t 0⟩, ⟨S256x128, t 1⟩, ⟨S256x128, t 2⟩, ⟨S256x128, t 3⟩, ⟨S256x128, t 4⟩, ⟨S256x128, t 5⟩,
    ⟨S256x128, t 6⟩, ⟨S256x128, t 7⟩]
    concatenates_S256x128_S256x128_S256x128_S256x128_S256x128_S256x128_S256x128_S256x128_S256x1024_d1

/-- All the running sums. -/
def cum (sc : FVec F S256x1024 .f32) : FVec F S256x1024 .f32 := sideBySide fun b => cumTile sc b.val b.isLt

section

variable (x0 : Vec F S256x1024 .f32) (x1 : Vec F S256x1024 .f32) (x2 : Vec F S2048x256 .f32) (x3 : Vec F S1x256 .f32) (x4 : Vec F S1x256 .f32) (x5 : Vec F S1x1 .f32) (x6 : Vec F S1024x256 .f32) (x7 : Vec F S256x8 .f32)

/-! The offset rows that the body carries from block to block. -/

theorem carry2 : k1_pay1163 x0 x1 x2 x3 x4 x5 x6 x7 = carry (k1_pay1036 x0 x1 x2 x3 x4 x5 x6 x7) 2 (by decide) := rfl
theorem carry3 : k1_pay1288 x0 x1 x2 x3 x4 x5 x6 x7 = lastRow (blockT (k1_pay1036 x0 x1 x2 x3 x4 x5 x6 x7) 2 (by decide)) (k1_pay1163 x0 x1 x2 x3 x4 x5 x6 x7) := rfl
theorem carry4 : k1_pay1402 x0 x1 x2 x3 x4 x5 x6 x7 = lastRow (blockT (k1_pay1036 x0 x1 x2 x3 x4 x5 x6 x7) 3 (by decide)) (k1_pay1288 x0 x1 x2 x3 x4 x5 x6 x7) := rfl
theorem carry5 : k1_pay1536 x0 x1 x2 x3 x4 x5 x6 x7 = lastRow (blockT (k1_pay1036 x0 x1 x2 x3 x4 x5 x6 x7) 4 (by decide)) (k1_pay1402 x0 x1 x2 x3 x4 x5 x6 x7) := rfl
theorem carry6 : k1_pay1658 x0 x1 x2 x3 x4 x5 x6 x7 = lastRow (blockT (k1_pay1036 x0 x1 x2 x3 x4 x5 x6 x7) 5 (by decide)) (k1_pay1536 x0 x1 x2 x3 x4 x5 x6 x7) := rfl
theorem carry7 : k1_pay1769 x0 x1 x2 x3 x4 x5 x6 x7 = lastRow (blockT (k1_pay1036 x0 x1 x2 x3 x4 x5 x6 x7) 6 (by decide)) (k1_pay1658 x0 x1 x2 x3 x4 x5 x6 x7) := rfl

/-! The tiles, each from the offset that it adds. -/

theorem tile0 : k1_pay1153 x0 x1 x2 x3 x4 x5 x6 x7 = cumTile (k1_pay1036 x0 x1 x2 x3 x4 x5 x6 x7) 0 (by decide) := rfl
theorem tile1 : k1_pay1162 x0 x1 x2 x3 x4 x5 x6 x7 = cumTile (k1_pay1036 x0 x1 x2 x3 x4 x5 x6 x7) 1 (by decide) := rfl
theorem tile2 : k1_pay1287 x0 x1 x2 x3 x4 x5 x6 x7 = tile (blockT (k1_pay1036 x0 x1 x2 x3 x4 x5 x6 x7) 2 (by decide)) (k1_pay1163 x0 x1 x2 x3 x4 x5 x6 x7) := rfl
theorem tile3 : k1_pay1401 x0 x1 x2 x3 x4 x5 x6 x7 = tile (blockT (k1_pay1036 x0 x1 x2 x3 x4 x5 x6 x7) 3 (by decide)) (k1_pay1288 x0 x1 x2 x3 x4 x5 x6 x7) := rfl
theorem tile4 : k1_pay1535 x0 x1 x2 x3 x4 x5 x6 x7 = tile (blockT (k1_pay1036 x0 x1 x2 x3 x4 x5 x6 x7) 4 (by decide)) (k1_pay1402 x0 x1 x2 x3 x4 x5 x6 x7) := rfl
theorem tile5 : k1_pay1657 x0 x1 x2 x3 x4 x5 x6 x7 = tile (blockT (k1_pay1036 x0 x1 x2 x3 x4 x5 x6 x7) 5 (by decide)) (k1_pay1536 x0 x1 x2 x3 x4 x5 x6 x7) := rfl
theorem tile6 : k1_pay1768 x0 x1 x2 x3 x4 x5 x6 x7 = tile (blockT (k1_pay1036 x0 x1 x2 x3 x4 x5 x6 x7) 6 (by decide)) (k1_pay1658 x0 x1 x2 x3 x4 x5 x6 x7) := rfl
theorem tiles : k1_pay1900 x0 x1 x2 x3 x4 x5 x6 x7 = sideBySide ![k1_pay1153 x0 x1 x2 x3 x4 x5 x6 x7, k1_pay1162 x0 x1 x2 x3 x4 x5 x6 x7,
    k1_pay1287 x0 x1 x2 x3 x4 x5 x6 x7, k1_pay1401 x0 x1 x2 x3 x4 x5 x6 x7, k1_pay1535 x0 x1 x2 x3 x4 x5 x6 x7,
    k1_pay1657 x0 x1 x2 x3 x4 x5 x6 x7, k1_pay1768 x0 x1 x2 x3 x4 x5 x6 x7,
    tile (blockT (k1_pay1036 x0 x1 x2 x3 x4 x5 x6 x7) 7 (by decide)) (k1_pay1769 x0 x1 x2 x3 x4 x5 x6 x7)] := rfl

/-- The running sums that the body computes are `cum` of its scores. -/
theorem cum_eq : k1_pay1900 x0 x1 x2 x3 x4 x5 x6 x7 = cum (k1_pay1036 x0 x1 x2 x3 x4 x5 x6 x7) := by
  rw [tiles, cum]
  congr 1
  funext b
  fin_cases b
  · exact tile0 ..
  · exact tile1 ..
  · refine (tile2 ..).trans ?_; rw [carry2]; rfl
  · refine (tile3 ..).trans ?_; rw [carry3, carry2]; rfl
  · refine (tile4 ..).trans ?_; rw [carry4, carry3, carry2]; rfl
  · refine (tile5 ..).trans ?_; rw [carry5, carry4, carry3, carry2]; rfl
  · refine (tile6 ..).trans ?_; rw [carry6, carry5, carry4, carry3, carry2]; rfl
  · show tile (blockT (k1_pay1036 x0 x1 x2 x3 x4 x5 x6 x7) 7 (by decide)) (k1_pay1769 x0 x1 x2 x3 x4 x5 x6 x7) = _
    rw [carry7, carry6, carry5, carry4, carry3, carry2]; rfl

end

end Cert.KernelIdeal.Hand
-- ==== Proof.KerSel.lean ====
/- The drawing part of the body as it is laid out there: for each of eight columns of uniform numbers the picked column of the scores,
   whether the draw is active, and the three accumulations over the draws: the counts per column, the logarithms of the picked scores
   and the logarithms of the ranks among equal picks; then Lanczos' formula. The body's two results are these functions. -/
module

public import proofs.«01_k».proof.Proof.KerCum

@[expose] public section

set_option maxRecDepth 65536

noncomputable section

namespace Cert.KernelIdeal.Hand

open Cert.KernelIdeal Cert.KernelIdeal.Gen Idealize.ShloMosaic Idealize.ShloMosaic.TcCoe Idealize.SL.Sem

variable {F : FTy → Type} [FloatOps F]

/-- The column numbers, along each row. -/
def columns : IVec S256x1024 32 := iota .tc S256x1024 32 [1] iota_S256x1024_d1_w32

/-- The column a draw picks: how many running sums are at most the draw, or column 0 if all of them are. -/
def pickOf (cum : FVec F S256x1024 .f32) (r : FVec F S256x1 .f32) : IVec S256x1 32 :=
  let n : IVec S256x1 32 := fptosi 32 (shapeCast S256x1 (multiReduction .add [1] S256 (sitofp (F := F) .f32 (extui 32 (cmpf .ole cum (broadcastTo S256x1024 r broadcasts_S256x1_S256x1024)) natLt_1_32))
    0x00000000#32 reduces_S256x1024_S256 (.inl rfl) rfl) shapeCasts_S256_S256x1)
  select (cmpi .sge n (broadcast S256x1 1024#32)) (broadcast S256x1 0#32) n

/-- One where the row's number of agents reaches the threshold, zero elsewhere. -/
def activeOf (n : FVec F S256x1 .f32) (b : BitVec 32) : FVec F S256x1 .f32 :=
  sitofp .f32 (extui 32 (cmpf .oge n (broadcast S256x1 (Scalar.ofBits .f32 b))) natLt_1_32)

/-- One column of the block of uniform numbers. -/
def drawCol (x7 : Vec F S256x8 .f32) : ℕ → FVec F S256x1 .f32
  | 0 => View.ld x7 r1_5
  | 1 => View.ld x7 r1_6
  | 2 => View.ld x7 r1_7
  | 3 => View.ld x7 r1_8
  | 4 => View.ld x7 r1_9
  | 5 => View.ld x7 r1_10
  | 6 => View.ld x7 r1_11
  | _ => View.ld x7 r1_12

/-- The number of a draw, counted from 1, as a floating-point number. -/
def threshold : ℕ → BitVec 32
  | 0 => 0x3F800000#32
  | 1 => 0x40000000#32
  | 2 => 0x40400000#32
  | 3 => 0x40800000#32
  | 4 => 0x40A00000#32
  | 5 => 0x40C00000#32
  | 6 => 0x40E00000#32
  | _ => 0x41000000#32

/-- The picked column of draw `k`. -/
def picks (cum : FVec F S256x1024 .f32) (x7 : Vec F S256x8 .f32) (k : ℕ) : IVec S256x1 32 := pickOf cum (drawCol x7 k)

/-- Whether draw `k` is active. -/
def actives (n : FVec F S256x1 .f32) (k : ℕ) : FVec F S256x1 .f32 := activeOf n (threshold k)

/-- Whether a column is the picked one. -/
def isPick (p : IVec S256x1 32) : IVec S256x1024 1 := cmpi .eq columns (broadcastTo S256x1024 p broadcasts_S256x1_S256x1024)

/-- The counts per column over the first draws. -/
def countTo (p : ℕ → IVec S256x1 32) (a : ℕ → FVec F S256x1 .f32) : ℕ → FVec F S256x1024 .f32
  | 0 => broadcast S256x1024 (Scalar.ofBits .f32 0x00000000#32)
  | k + 1 => addf (countTo p a k) (select (isPick (p k)) (broadcastTo S256x1024 (shapeCast S256x1 (a k) shapeCasts_S256x1_S256x1) broadcasts_S256x1_S256x1024) (broadcast S256x1024 (Scalar.ofBits .f32 0x00000000#32)))

/-- The logarithm of the score at a picked column. -/
def logPick (sc : FVec F S256x1024 .f32) (p : IVec S256x1 32) : FVec F S256x1 .f32 :=
  log (shapeCast S256x1 (multiReduction .add [1] S256 (select (isPick p) sc (broadcast S256x1024 (Scalar.ofBits .f32 0x00000000#32))) 0x00000000#32 reduces_S256x1024_S256 (.inl rfl) rfl) shapeCasts_S256_S256x1)

/-- The logarithms of the picked scores, summed over the first draws. -/
def logPickTo (sc : FVec F S256x1024 .f32) (p : ℕ → IVec S256x1 32) (a : ℕ → FVec F S256x1 .f32) : ℕ → FVec F S256x1 .f32
  | 0 => broadcast S256x1 (Scalar.ofBits .f32 0x00000000#32)
  | k + 1 => addf (logPickTo sc p a k) (mulf (a k) (logPick sc (p k)))

/-- How many of the first `j` draws are active and pick what draw `k` picks, draw `k` itself added. -/
def rankTo (p : ℕ → IVec S256x1 32) (a : ℕ → FVec F S256x1 .f32) (k : ℕ) : ℕ → FVec F S256x1 .f32
  | 0 => a k
  | j + 1 => addf (rankTo p a k j) (mulf (a j) (sitofp .f32 (extui 32 (cmpi .eq (p j) (p k)) natLt_1_32)))

/-- The logarithms of the ranks, summed over the first draws. -/
def logRankTo (p : ℕ → IVec S256x1 32) (a : ℕ → FVec F S256x1 .f32) : ℕ → FVec F S256x1 .f32
  | 0 => broadcast S256x1 (Scalar.ofBits .f32 0x00000000#32)
  | k + 1 => addf (logRankTo p a k) (mulf (a k) (log (maximumf (rankTo p a k k) (broadcast S256x1 (Scalar.ofBits .f32 0x3F800000#32)))))

/-- A column that holds one number everywhere. -/
def num (b : BitVec 32) : FVec F S256x1 .f32 := broadcast S256x1 (Scalar.ofBits .f32 b)

/-- Lanczos' series, the signs in the coefficients. -/
def series (z : FVec F S256x1 .f32) : FVec F S256x1 .f32 :=
  addf (addf (addf (addf (addf (addf (num 0x3F800000#32) (divf (num 0x42985C35#32) (addf z (num 0x3F800000#32)))) (divf (num 0xC2AD02B9#32) (addf z (num 0x40000000#32))))
    (divf (num 0x41C01CE0#32) (addf z (num 0x40400000#32)))) (divf (num 0xBF9DA9A4#32) (addf z (num 0x40800000#32)))) (divf (num 0x3A9E6B99#32) (addf z (num 0x40A00000#32))))
    (divf (num 0xB6B508C1#32) (addf z (num 0x40C00000#32)))

/-- The logarithm of the gamma function by Lanczos' formula. -/
def lnGamma (z : FVec F S256x1 .f32) : FVec F S256x1 .f32 :=
  addf (subf (mulf (addf z (num 0x3F000000#32)) (log (addf z (num 0x40B00000#32)))) (addf z (num 0x40B00000#32)))
    (log (divf (mulf (num 0x40206C99#32) (series z)) z))

/-- The log probabilities from the expected number, the scores, the picks and the active draws. -/
def logProb (l : FVec F S256x1 .f32) (sc : FVec F S256x1024 .f32) (p : ℕ → IVec S256x1 32) (a : ℕ → FVec F S256x1 .f32) : FVec F S256x1 .f32 :=
  addf (subf (lnGamma (addf l (num 0x3F800000#32))) (logRankTo p a 8)) (logPickTo sc p a 8)

variable (x0 : Vec F S256x1024 .f32) (x1 : Vec F S256x1024 .f32) (x2 : Vec F S2048x256 .f32) (x3 : Vec F S1x256 .f32)
  (x4 : Vec F S1x256 .f32) (x5 : Vec F S1x1 .f32) (x6 : Vec F S1024x256 .f32) (x7 : Vec F S256x8 .f32)

/-- The first result of the body. -/
theorem out8_eq : out1_8 x0 x1 x2 x3 x4 x5 x6 x7 = View.canon [⟨r1_0, countTo (picks (k1_pay1900 x0 x1 x2 x3 x4 x5 x6 x7) x7) (actives (k1_pay1034 x0 x1 x2 x3 x4 x5 x6 x7)) 8⟩] := rfl

/-- The second result of the body. -/
theorem out9_eq : out1_9 x0 x1 x2 x3 x4 x5 x6 x7 = View.canon [⟨r1_13, logProb (k1_pay1033 x0 x1 x2 x3 x4 x5 x6 x7) (k1_pay1036 x0 x1 x2 x3 x4 x5 x6 x7)
    (picks (k1_pay1900 x0 x1 x2 x3 x4 x5 x6 x7) x7) (actives (k1_pay1034 x0 x1 x2 x3 x4 x5 x6 x7))⟩] := rfl

end Cert.KernelIdeal.Hand

end
-- ==== Proof.Draw.lean ====
/- The mathematics of one row of draws: a row of scores, its running sums, the column that a draw picks, how often the active draws pick
   each column, and the two sums of logarithms, once over the draws and once over the columns. -/
module

public import Idealize.ShloMosaic.Lib.Pipeline.ValueKit

@[expose] public section

noncomputable section

namespace Cert.Draw

open Idealize.ShloMosaic Finset

/-- Queries' and tasks' features in one row. -/
def join (q t : Fin 1024 → EReal) (k : Fin 2048) : EReal := if h : k.val < 1024 then q ⟨k.val, h⟩ else t ⟨k.val - 1024, by omega⟩

/-- A linear map of a row, the bias added. -/
def lin {n : ℕ} (x : Fin n → EReal) (w : Fin n → Fin 256 → EReal) (b : Fin 256 → EReal) (h : Fin 256) : EReal := (∑ k, x k * w k h) + b h

/-- The linear map of joined features is the sum of the two halves' maps. -/
theorem lin_join (q t : Fin 1024 → EReal) (w : Fin 2048 → Fin 256 → EReal) (b : Fin 256 → EReal) (h : Fin 256) :
    lin (join q t) w b h = (∑ k : Fin 1024, q k * w ⟨k.val, by omega⟩ h) + (∑ k : Fin 1024, t k * w ⟨1024 + k.val, by omega⟩ h) + b h := by
  unfold lin
  refine congrArg (· + b h) ((Fin.sum_univ_add (a := 1024) (b := 1024) fun k => join q t k * w k h).trans (congrArg₂ (· + ·) ?_ ?_))
  · refine sum_congr rfl fun k _ => ?_
    rw [join, dif_pos (by simp)]
    rfl
  · refine sum_congr rfl fun k _ => ?_
    rw [join, dif_neg (by simp)]
    congr 2
    exact Fin.ext (by simp)

/-- A row divided by its norm, the norm at least a small number. -/
def unit (v : Fin 256 → EReal) (h : Fin 256) : EReal := Ideal.div (v h) (max (Ideal.sqrt (∑ k, v k * v k)) (Ideal.ofBits .f32 0x2B8CBCCC#32))

/-- The expected number of agents: eight times the logistic function of a linear form. -/
def expected (v w : Fin 256 → EReal) (b : EReal) : EReal := Ideal.div 1 (1 + Ideal.exp (-((∑ k, v k * w k) + b))) * Ideal.ofBits .f32 0x41000000#32

/-- The expected number rounded and clipped to the numbers from 1 to 8. -/
def clip (l : EReal) : EReal := min ((8 : ℕ) : EReal) (max ((1 : ℕ) : EReal) (Ideal.liftRound Ideal.roundHalfEven l))

/-- The inner products with the agents. -/
def logits (v : Fin 256 → EReal) (a : Fin 1024 → Fin 256 → EReal) (c : Fin 1024) : EReal := ∑ h, v h * a c h

/-- The exponentials of a row, its largest number subtracted. -/
def exps (x : Fin 1024 → EReal) (c : Fin 1024) : EReal := Ideal.exp (x c - univ.fold max ⊥ x)

/-- The logarithm of the gamma function by Lanczos' formula. -/
def lanczos (z : EReal) : EReal :=
  (z + Ideal.ofBits .f32 0x3F000000#32) * Ideal.log (z + Ideal.ofBits .f32 0x40B00000#32) - (z + Ideal.ofBits .f32 0x40B00000#32)
    + Ideal.log (Ideal.div (Ideal.ofBits .f32 0x40206C99#32 *
      (1 + Ideal.div (Ideal.ofBits .f32 0x42985C35#32) (z + 1) - Ideal.div (Ideal.ofBits .f32 0x42AD02B9#32) (z + Ideal.ofBits .f32 0x40000000#32)
        + Ideal.div (Ideal.ofBits .f32 0x41C01CE0#32) (z + Ideal.ofBits .f32 0x40400000#32) - Ideal.div (Ideal.ofBits .f32 0x3F9DA9A4#32) (z + Ideal.ofBits .f32 0x40800000#32)
        + Ideal.div (Ideal.ofBits .f32 0x3A9E6B99#32) (z + Ideal.ofBits .f32 0x40A00000#32) - Ideal.div (Ideal.ofBits .f32 0x36B508C1#32) (z + Ideal.ofBits .f32 0x40C00000#32))) z)

/-- The sum of the scores up to a column. -/
def upTo (s : Fin 1024 → EReal) (c : Fin 1024) : EReal := ∑ k ∈ univ.filter (· ≤ c), s k

/-- The scores as a sequence, zero past the last one. -/
def seq (s : Fin 1024 → EReal) (n : ℕ) : EReal := if h : n < 1024 then s ⟨n, h⟩ else 0

theorem upTo_eq (s : Fin 1024 → EReal) (c : Fin 1024) : upTo s c = ∑ n ∈ range (c.val + 1), seq s n := by
  refine sum_bij (fun k _ => k.val) (fun k hk => ?_) (fun a _ b _ h => Fin.ext h) (fun n hn => ?_) fun k _ => ?_
  · simp only [mem_filter, mem_univ, true_and] at hk
    exact mem_range.mpr (Nat.lt_succ_of_le hk)
  · have hn' : n < c.val + 1 := mem_range.mp hn
    exact ⟨⟨n, by have := c.isLt; omega⟩, by simp only [mem_filter, mem_univ, true_and]; exact Nat.le_of_lt_succ hn', rfl⟩
  · simp [seq]

/-- Scores that are all nonnegative, or all negative infinity, have running sums that never fall. -/
theorem upTo_mono {s : Fin 1024 → EReal} (h : (∀ c, 0 ≤ s c) ∨ ∀ c, s c = ⊥) : Monotone (upTo s) := by
  intro a b hab
  rcases h with h | h
  · exact sum_le_sum_of_subset_of_nonneg (fun k hk => by
      simp only [mem_filter, mem_univ, true_and] at hk ⊢; exact hk.trans hab) fun k _ _ => h k
  · have bot : ∀ c, upTo s c = ⊥ := fun c => by
      unfold upTo
      rw [← add_sum_erase _ _ (show c ∈ univ.filter (· ≤ c) by simp), h, EReal.bot_add]
    rw [bot, bot]

/-- The share of each number of a row in the row's sum. -/
def share (e : Fin 1024 → EReal) (c : Fin 1024) : EReal := Ideal.div (e c) (∑ k, e k)

/-- Shares of nonnegative numbers are all nonnegative, or, when the sum is zero, all negative infinity. -/
theorem share_sign {e : Fin 1024 → EReal} (h : ∀ c, 0 ≤ e c) : (∀ c, 0 ≤ share e c) ∨ ∀ c, share e c = ⊥ := by
  by_cases h0 : ∑ k, e k = 0
  · right
    intro c
    have hc : e c = 0 := (sum_eq_zero_iff_of_nonneg fun k _ => h k).mp h0 c (mem_univ c)
    simp [share, Ideal.div, h0, hc]
  · left
    intro c
    simp only [share, Ideal.div, h0, if_false]
    exact mul_nonneg (h c) (EReal.inv_nonneg_of_nonneg (sum_nonneg fun k _ => h k))

/-- The column that a draw picks: the number of running sums that are at most the draw, or column 0 if all of them are. -/
def pick (c : Fin 1024 → EReal) (r : EReal) : Fin 1024 :=
  if h : (univ.filter fun k => c k ≤ r).card < 1024 then ⟨_, h⟩ else 0

/-- With running sums that never fall, the picked column is the first with the largest value of "the running sum exceeds the draw". -/
theorem pick_eq {c : Fin 1024 → EReal} (hc : Monotone c) (r : EReal) (p : Fin 1024)
    (hmax : ∀ k, (if r < c k then (1 : EReal) else 0) ≤ if r < c p then 1 else 0)
    (hfirst : ∀ k < p, (if r < c k then (1 : EReal) else 0) < if r < c p then 1 else 0) : pick c r = p := by
  have one : ¬ (1 : EReal) ≤ 0 := not_le.mpr zero_lt_one
  by_cases hp : r < c p
  · have hset : (univ.filter fun k => c k ≤ r) = Iio p := by
      ext k
      simp only [mem_filter, mem_univ, true_and, mem_Iio]
      constructor
      · intro hk
        by_contra hkp
        exact absurd (hp.trans_le (hc (not_lt.mp hkp))) (not_lt.mpr hk)
      · intro hk
        have := hfirst k hk
        by_contra hn
        simp [hp, not_le.mp hn] at this
    have hcard : (univ.filter fun k => c k ≤ r).card = p.val := by rw [hset, Fin.card_Iio]
    unfold pick
    rw [dif_pos (by rw [hcard]; exact p.isLt)]
    exact Fin.ext hcard
  · have hall : ∀ k, c k ≤ r := fun k => by
      by_contra hk
      have := hmax k
      simp [hp, not_le.mp hk] at this
      exact one this
    have hp0 : p = 0 := by
      by_contra h0
      have := hfirst 0 (Fin.pos_iff_ne_zero.mpr h0)
      rw [if_neg (not_lt.mpr (hall 0)), if_neg hp] at this
      exact lt_irrefl _ this
    have hset : (univ.filter fun k => c k ≤ r) = univ := filter_true_of_mem fun k _ => hall k
    unfold pick
    rw [dif_neg (by rw [hset]; simp), hp0]

variable (A : ℕ → Prop) [DecidablePred A] (p : ℕ → Fin 1024)

/-- One for an active draw, zero for the others. -/
def act (k : ℕ) : EReal := if A k then 1 else 0

/-- How often the first `K` draws, the active ones, pick a column. -/
def count (K : ℕ) (c : Fin 1024) : EReal := ∑ k ∈ range K, if p k = c then act A k else 0

/-- The same as a natural number. -/
def times (K : ℕ) (c : Fin 1024) : ℕ := ((range K).filter fun k => A k ∧ p k = c).card

theorem act_nonneg (k : ℕ) : 0 ≤ act A k := by
  unfold act; split <;> simp

theorem count_eq (K : ℕ) (c : Fin 1024) : count A p K c = (times A p K c : EReal) := by
  unfold count times
  rw [card_filter, Nat.cast_sum]
  refine sum_congr rfl fun k _ => ?_
  unfold act
  by_cases h1 : p k = c <;> by_cases h2 : A k <;> simp [h1, h2]

theorem times_le (K : ℕ) (c : Fin 1024) : times A p K c ≤ K :=
  (card_filter_le _ _).trans (card_range K).le

theorem times_succ (K : ℕ) (c : Fin 1024) : times A p (K + 1) c = times A p K c + if A K ∧ p K = c then 1 else 0 := by
  unfold times
  rw [range_add_one, filter_insert]
  split
  · rw [card_insert_of_notMem (by simp)]
  · rfl

/-- Nonnegative terms may be multiplied one by one. -/
theorem sum_mul_of_nonneg {ι : Type} (S : Finset ι) (f : ι → EReal) (hf : ∀ i, 0 ≤ f i) (x : EReal) :
    (∑ i ∈ S, f i) * x = ∑ i ∈ S, f i * x := by
  classical
  induction S using Finset.induction_on with
  | empty => simp
  | insert a S ha ih =>
    rw [sum_insert ha, sum_insert ha, EReal.right_distrib_of_nonneg (hf a) (sum_nonneg fun i _ => hf i), ih]

/-- Counting columns and summing a column's number once for each count is summing the picked numbers. -/
theorem sum_count_mul (K : ℕ) (x : Fin 1024 → EReal) : ∑ c, count A p K c * x c = ∑ k ∈ range K, act A k * x (p k) := by
  have h : ∀ c, count A p K c * x c = ∑ k ∈ range K, if p k = c then act A k * x c else 0 := fun c => by
    unfold count
    rw [sum_mul_of_nonneg _ _ fun k => by split; exacts [act_nonneg A k, le_rfl]]
    exact sum_congr rfl fun k _ => by split <;> simp
  simp only [h]
  rw [sum_comm]
  exact sum_congr rfl fun k _ => by simp

/-- The rank of draw `k` among the active draws so far that pick the same column. -/
def rank (k : ℕ) : EReal := act A k + ∑ j ∈ range k, act A j * if p j = p k then 1 else 0

theorem rank_eq (k : ℕ) (h : A k) : rank A p k = ((times A p k (p k) + 1 : ℕ) : EReal) := by
  have : ∑ j ∈ range k, act A j * (if p j = p k then (1 : EReal) else 0) = count A p k (p k) :=
    sum_congr rfl fun j _ => by split <;> simp
  rw [rank, this, count_eq, act, if_pos h, add_comm]
  push_cast
  rfl

/-- The logarithm of a factorial, as the sum of the logarithms of the numbers from 2 to 8 that are not larger. -/
def factLog (L : ℕ → EReal) (x : EReal) : EReal := ∑ i : Fin 7, if ((i.val + 2 : ℕ) : EReal) ≤ x then L (i.val + 2) else 0

theorem factLog_succ {L : ℕ → EReal} (h1 : L 1 = 0) {n : ℕ} (hn : n < 8) :
    factLog L ((n + 1 : ℕ) : EReal) = factLog L (n : EReal) + L (n + 1) := by
  unfold factLog
  simp only [Nat.cast_le]
  interval_cases n <;> simp [Fin.sum_univ_succ, h1, add_assoc]

/-- The logarithms of the ranks, summed over the draws, are the logarithms of the factorials of the counts, summed over the columns. -/
theorem sum_rank {L : ℕ → EReal} (h1 : L 1 = 0) (g : EReal → EReal) (hg : ∀ n : ℕ, g ((n + 1 : ℕ) : EReal) = L (n + 1)) (K : ℕ) (hK : K ≤ 8) :
    ∑ k ∈ range K, act A k * g (rank A p k) = ∑ c, factLog L (count A p K c) := by
  induction K with
  | zero => simp [count, factLog, -Nat.cast_add, -Nat.cast_ofNat, -EReal.coe_add]
  | succ K ih =>
    rw [sum_range_succ, ih (by omega)]
    by_cases hA : A K
    · have step : ∀ c, factLog L (count A p (K + 1) c) = factLog L (count A p K c) + if p K = c then L (times A p K (p K) + 1) else 0 := fun c => by
        rw [count_eq, count_eq, times_succ]
        by_cases hc : p K = c
        · subst hc
          rw [if_pos ⟨hA, rfl⟩, if_pos rfl, factLog_succ h1 ((times_le A p K _).trans_lt (by omega))]
        · rw [if_neg (fun h => hc h.2), if_neg hc, add_zero, add_zero]
      simp only [step]
      rw [sum_add_distrib, rank_eq A p K hA, hg, act, if_pos hA, one_mul]
      simp
    · have step : ∀ c, count A p (K + 1) c = count A p K c := fun c => by
        rw [count_eq, count_eq, times_succ, if_neg (fun h => hA h.1), add_zero]
      simp only [step, act, if_neg hA, zero_mul, add_zero]

/-- Whether a draw, counted from 0, is active. -/
def Active (l : EReal) (k : ℕ) : Prop := ((k + 1 : ℕ) : EReal) ≤ clip l

instance (l : EReal) : DecidablePred (Active l) := fun k => inferInstanceAs (Decidable (((k + 1 : ℕ) : EReal) ≤ clip l))

/-- How often each column is picked by the active draws of a row. -/
def selected (l : EReal) (s : Fin 1024 → EReal) (r : ℕ → EReal) (c : Fin 1024) : EReal := count (Active l) (fun k => pick (upTo s) (r k)) 8 c

/-- The log probability of a row's picks. -/
def logProb (l : EReal) (s : Fin 1024 → EReal) (r : ℕ → EReal) : EReal :=
  lanczos (l + 1) - (∑ c, factLog (fun n => Ideal.log (n : EReal)) (selected l s r c)) + ∑ c, selected l s r c * Ideal.log (s c)

/-- The embedding of a row's query and task. -/
def embed (q t : Fin 1024 → EReal) (w : Fin 2048 → Fin 256 → EReal) (b : Fin 256 → EReal) : Fin 256 → EReal := unit (lin (join q t) w b)

/-- The embedding of an agent. -/
def agent (x : Fin 1024 → EReal) (w : Fin 1024 → Fin 256 → EReal) (b : Fin 256 → EReal) : Fin 256 → EReal := unit (lin x w b)

/-- The scores of the agents for an embedded row. -/
def scores (v : Fin 256 → EReal) (a : Fin 1024 → Fin 256 → EReal) : Fin 1024 → EReal := share (exps (logits v a))

/-- A row's eight draws as a sequence. -/
def drawn (u : Fin 8 → EReal) (k : ℕ) : EReal := if h : k < 8 then u ⟨k, h⟩ else 0

/-- A row's counts, from its features, the weights, the embedded agents and its draws. -/
def rowSel (q t : Fin 1024 → EReal) (w : Fin 2048 → Fin 256 → EReal) (b v : Fin 256 → EReal) (d : EReal) (a : Fin 1024 → Fin 256 → EReal) (u : Fin 8 → EReal) (c : Fin 1024) : EReal :=
  selected (expected (embed q t w b) v d) (scores (embed q t w b) a) (drawn u) c

/-- A row's log probability, from its features, the weights, the embedded agents and its draws. -/
def rowLog (q t : Fin 1024 → EReal) (w : Fin 2048 → Fin 256 → EReal) (b v : Fin 256 → EReal) (d : EReal) (a : Fin 1024 → Fin 256 → EReal) (u : Fin 8 → EReal) : EReal :=
  logProb (expected (embed q t w b) v d) (scores (embed q t w b) a) (drawn u)

/-- Equal features, weights, agents and draws give equal results. -/
theorem row_congr {β : Type} (f : (Fin 1024 → EReal) → (Fin 1024 → EReal) → (Fin 2048 → Fin 256 → EReal) → (Fin 256 → EReal) → (Fin 256 → EReal) → EReal → (Fin 1024 → Fin 256 → EReal) → (Fin 8 → EReal) → β)
    {q q' t t' : Fin 1024 → EReal} {w w' : Fin 2048 → Fin 256 → EReal} {b b' v v' : Fin 256 → EReal} {d d' : EReal} {a a' : Fin 1024 → Fin 256 → EReal} {u u' : Fin 8 → EReal}
    (hq : ∀ k, q k = q' k) (ht : ∀ k, t k = t' k) (hw : ∀ k h, w k h = w' k h) (hb : ∀ h, b h = b' h) (hv : ∀ h, v h = v' h) (hd : d = d') (ha : ∀ c h, a c h = a' c h)
    (hu : ∀ k, u k = u' k) : f q t w b v d a u = f q' t' w' b' v' d' a' u' := by
  rw [funext hq, funext ht, funext fun k => funext (hw k), funext hb, funext hv, hd, funext fun c => funext (ha c), funext hu]

end Cert.Draw

end
-- ==== Proof.Words.lean ====
/- Comparison bits, whole numbers and integer words at the extended reals. -/
module

public import proofs.«01_k».proof.Proof.Draw

@[expose] public section

noncomputable section

namespace Cert.Words

open Idealize.ShloMosaic

/-- A comparison's bit, widened and read as a number. -/
theorem widened_bit (P : Prop) [Decidable P] : (FloatOps.sitofp FTy.f32 ((BitVec.ofBool (decide P)).setWidth 32) : Ideal .f32) = if P then (1 : EReal) else 0 := by
  by_cases h : P <;> simp [h, FloatOps.sitofp] <;> rfl

/-- A comparison's bit read as a number. -/
theorem bit (P : Prop) [Decidable P] : (FloatOps.uitofp FTy.f32 (BitVec.ofBool (decide P)) : Ideal .f32) = if P then (1 : EReal) else 0 := by
  by_cases h : P <;> simp [h, FloatOps.uitofp] <;> rfl

/-- The integer word of a whole number. -/
theorem fptosi_nat (n : ℕ) (h : n < 2 ^ 31) : FloatOps.fptosi (F := Ideal) (φ := .f32) 32 ((n : EReal)) = BitVec.ofNat 32 n := by
  show Ideal.fptosi 32 ((n : EReal)) = _
  have hn : (n : EReal) = ((n : ℝ) : EReal) := by norm_cast
  rw [hn]
  show BitVec.ofInt 32 (max (-((2 ^ (32 - 1) : ℕ) : ℤ)) (min ((((2 ^ (32 - 1) : ℕ) : ℤ)) - 1) (if (0 : ℝ) ≤ (n : ℝ) then ⌊(n : ℝ)⌋ else ⌈(n : ℝ)⌉))) = _
  rw [if_pos (Nat.cast_nonneg n), Int.floor_natCast]
  rw [show max (-((2 ^ (32 - 1) : ℕ) : ℤ)) (min ((((2 ^ (32 - 1) : ℕ) : ℤ)) - 1) (n : ℤ)) = (n : ℤ) by norm_num; omega]
  exact BitVec.ofInt_natCast ..

theorem toInt_ofNat (n : ℕ) (h : n < 2 ^ 31) : (BitVec.ofNat 32 n).toInt = n := by
  have h1 : (BitVec.ofNat 32 n).toNat = n := by rw [BitVec.toNat_ofNat]; omega
  rw [BitVec.toInt_eq_toNat_of_lt (by rw [h1]; omega), h1]

theorem sitofp_nat (n : ℕ) (h : n < 2 ^ 31) : (FloatOps.sitofp FTy.f32 (BitVec.ofNat 32 n) : Ideal .f32) = (n : EReal) := by
  show (((BitVec.ofNat 32 n).toInt : ℝ) : EReal) = _
  rw [toInt_ofNat n h]
  simp

theorem add_nat (a b : ℕ) : IntOp.addi (BitVec.ofNat 32 a) (BitVec.ofNat 32 b) = BitVec.ofNat 32 (a + b) := (BitVec.ofNat_add a b).symm

/-- Comparing integer words of small naturals. -/
theorem sge_nat (a b : ℕ) (ha : a < 2 ^ 31) (hb : b < 2 ^ 31) : IntOp.cmpi .sge (BitVec.ofNat 32 a) (BitVec.ofNat 32 b) = BitVec.ofBool (decide (b ≤ a)) := by
  simp only [IntOp.cmpi, BitVec.sle]
  rw [toInt_ofNat a ha, toInt_ofNat b hb]
  simp

theorem slt_zero (a : ℕ) (ha : a < 2 ^ 31) : IntOp.cmpi .slt (BitVec.ofNat 32 a) 0#32 = 0#1 := by
  simp only [IntOp.cmpi, BitVec.slt]
  rw [toInt_ofNat a ha]
  have : ¬ ((a : ℤ) < (0#32).toInt) := by simp
  rw [decide_eq_false this]
  rfl

theorem eq_nat (a b : ℕ) (ha : a < 2 ^ 31) (hb : b < 2 ^ 31) : IntOp.cmpi .eq (BitVec.ofNat 32 a) (BitVec.ofNat 32 b) = BitVec.ofBool (decide (a = b)) := by
  have : BitVec.ofNat 32 a = BitVec.ofNat 32 b ↔ a = b := by
    constructor
    · intro h
      have := congrArg BitVec.toNat h
      simp at this; omega
    · rintro rfl; rfl
  by_cases hab : a = b
  · subst hab; simp [IntOp.cmpi]
  · have h' : ¬ BitVec.ofNat 32 a = BitVec.ofNat 32 b := fun h => hab (this.mp h)
    simp only [IntOp.cmpi, beq_eq_false_iff_ne.mpr h', hab, decide_false]

theorem select_bit {α : Type} (P : Prop) [Decidable P] (x y : α) : Scalar.select (BitVec.ofBool (decide P)) x y = if P then x else y := by
  by_cases h : P <;> simp [h, Scalar.select]

/-- Counting: a sum of ones is a number of indices. -/
theorem sum_ones {n : ℕ} (P : Fin n → Prop) [DecidablePred P] : (∑ k, if P k then (1 : EReal) else 0) = ((Finset.univ.filter P).card : EReal) := by
  rw [Finset.card_filter, Nat.cast_sum]
  exact Finset.sum_congr rfl fun k _ => by split <;> simp

theorem two : Ideal.ofBits .f32 0x40000000#32 = ((2 : ℕ) : EReal) := by
  simp [Ideal.ofBits, Ideal.ieee]
  rw [← EReal.coe_mul]
  norm_num
  try rfl
theorem three : Ideal.ofBits .f32 0x40400000#32 = ((3 : ℕ) : EReal) := by
  simp [Ideal.ofBits, Ideal.ieee]
  rw [← EReal.coe_mul]
  norm_num
  try rfl
theorem four : Ideal.ofBits .f32 0x40800000#32 = ((4 : ℕ) : EReal) := by
  simp [Ideal.ofBits, Ideal.ieee]
  rw [← EReal.coe_mul]
  norm_num
  try rfl
theorem eight : Ideal.ofBits .f32 0x41000000#32 = ((8 : ℕ) : EReal) := by
  simp [Ideal.ofBits, Ideal.ieee]
  rw [← EReal.coe_mul]
  norm_num
  try rfl
theorem one : Ideal.ofBits .f32 0x3F800000#32 = ((1 : ℕ) : EReal) := by
  simp [Ideal.ofBits, Ideal.ieee]
  rw [← EReal.coe_mul]
  norm_num
  try rfl

theorem neg_word : Ideal.ofBits .f32 0xC2AD02B9#32 = -Ideal.ofBits .f32 0x42AD02B9#32 := by simp [Ideal.ofBits, Ideal.ieee]

theorem neg_inf : Ideal.ofBits .f32 0xFF800000#32 = ⊥ := by simp [Ideal.ofBits, Ideal.ieee]

/-- Rounding, then clipping to the numbers from 1 to 8, gives one of these numbers. -/
theorem clipped (x : EReal) : ∃ n : ℕ, 1 ≤ n ∧ n ≤ 8 ∧ min ((8 : ℕ) : EReal) (max ((1 : ℕ) : EReal) (Ideal.liftRound Ideal.roundHalfEven x)) = (n : EReal) := by
  induction x using EReal.rec with
  | bot => exact ⟨1, le_rfl, by norm_num, by rw [show Ideal.liftRound Ideal.roundHalfEven ⊥ = ⊥ from rfl]; simp⟩
  | top => exact ⟨8, by norm_num, le_rfl, by rw [show Ideal.liftRound Ideal.roundHalfEven ⊤ = ⊤ from rfl]; simp⟩
  | coe r =>
    obtain ⟨z, hz⟩ : ∃ z : ℤ, Ideal.roundHalfEven r = z := ⟨_, rfl⟩
    refine ⟨(min 8 (max 1 z)).toNat, by omega, by omega, ?_⟩
    rw [show Ideal.liftRound Ideal.roundHalfEven (r : EReal) = (((Ideal.roundHalfEven r : ℤ) : ℝ) : EReal) from rfl, hz]
    have h : (((min 8 (max 1 z)).toNat : ℕ) : ℝ) = ((min 8 (max 1 z) : ℤ) : ℝ) := by
      rw [← Int.cast_natCast, Int.toNat_of_nonneg (by omega)]
    rw [show (((min 8 (max 1 z)).toNat : ℕ) : EReal) = ((((min 8 (max 1 z)).toNat : ℕ) : ℝ) : EReal) by norm_cast, h]
    push_cast
    rfl

end Cert.Words

end
-- ==== Proof.KerRow.lean ====
/- The body's drawing part read one row at a time. -/
module

public import proofs.«01_k».proof.Proof.KerSel
public import proofs.«01_k».proof.Proof.Words

@[expose] public section

set_option maxRecDepth 16384

noncomputable section

namespace Cert.KernelIdeal.Hand

open Cert.KernelIdeal Cert.KernelIdeal.Gen Idealize.ShloMosaic Idealize.ShloMosaic.TcCoe Idealize.SL.Sem

/-- The logarithm's formula, the signs in the coefficients. -/
theorem div_neg_word (a b c : BitVec 32) (h : Ideal.ofBits .f32 b = -Ideal.ofBits .f32 a) (ha : 0 < Ideal.ofBits .f32 a) (x z : EReal) :
    x + Ideal.div (Ideal.ofBits .f32 b) z = x - Ideal.div (Ideal.ofBits .f32 a) z := by
  rw [sub_eq_add_neg, h]
  congr 1
  unfold Ideal.div
  by_cases hz : z = 0
  · have hn : ¬ 0 < -Ideal.ofBits .f32 a := by
      rw [not_lt, EReal.neg_le, neg_zero]; exact ha.le
    simp [hz, ha, hn]
  · simp [hz, EReal.neg_mul]

/-- Lanczos' formula at an entry. -/
theorem lnGamma_at (z : FVec Ideal S256x1 .f32) (i : Fin 256) : lnGamma z (ix2 i 0) = Draw.lanczos (z (ix2 i 0)) := by
  pointwise [lnGamma, series, num]
  unfold Draw.lanczos
  rw [div_neg_word 0x42AD02B9#32 3266118329#32 0#32 (by simp [Ideal.ofBits, Ideal.ieee]) (by simp [Ideal.ofBits, Ideal.ieee]; rw [← EReal.coe_mul]; norm_num),
    div_neg_word 0x3F9DA9A4#32 3214780836#32 0#32 (by simp [Ideal.ofBits, Ideal.ieee]) (by simp [Ideal.ofBits, Ideal.ieee]; rw [← EReal.coe_mul]; norm_num),
    div_neg_word 0x36B508C1#32 3065317569#32 0#32 (by simp [Ideal.ofBits, Ideal.ieee]) (by simp [Ideal.ofBits, Ideal.ieee]; rw [← EReal.coe_mul]; norm_num)]

theorem activeOf_at (n : FVec Ideal S256x1 .f32) (b : BitVec 32) (i : Fin 256) :
    activeOf n b (ix2 i 0) = if Ideal.ofBits .f32 b ≤ n (ix2 i 0) then 1 else 0 := by
  pointwise [activeOf]
  exact Words.widened_bit _

/-- The thresholds are the numbers from 1 to 8. -/
theorem threshold_eq (k : ℕ) (hk : k < 8) : Ideal.ofBits .f32 (threshold k) = ((k + 1 : ℕ) : EReal) := by
  interval_cases k <;> (simp [threshold, Ideal.ofBits, Ideal.ieee]; rw [← EReal.coe_mul]; norm_num; try rfl)

theorem actives_at (n : FVec Ideal S256x1 .f32) (i : Fin 256) (l : EReal) (hl : n (ix2 i 0) = Draw.clip l) (k : ℕ) (hk : k < 8) :
    actives n k (ix2 i 0) = Draw.act (Draw.Active l) k := by
  unfold actives Draw.act Draw.Active
  rw [activeOf_at, threshold_eq k hk, hl]
  rfl

/-- The column a draw picks. -/
theorem pickOf_at (c : FVec Ideal S256x1024 .f32) (r : FVec Ideal S256x1 .f32) (i : Fin 256) :
    pickOf c r (ix2 i 0) = BitVec.ofNat 32 (Draw.pick (fun k => c (ix2 i k)) (r (ix2 i 0))).val := by
  pointwise [pickOf]
  simp only [Words.widened_bit]
  have hcard : (Finset.univ.filter fun k : Fin 1024 => c (ix2 i k) ≤ r (ix2 i 0)).card ≤ 1024 := (Finset.card_le_univ _).trans (by simp)
  rw [Words.sum_ones, Words.fptosi_nat _ (by omega), Words.sge_nat _ 1024 (by omega) (by norm_num), Words.select_bit]
  unfold Draw.pick
  by_cases h : (Finset.univ.filter fun k : Fin 1024 => c (ix2 i k) ≤ r (ix2 i 0)).card < 1024
  · rw [dif_pos h, if_neg (by omega)]
  · rw [dif_neg h, if_pos (by omega)]; rfl

section Counts

variable (p : ℕ → IVec S256x1 32) (a : ℕ → FVec Ideal S256x1 .f32) (i : Fin 256) (q : ℕ → Fin 1024) (hq : ∀ k < 8, p k (ix2 i 0) = BitVec.ofNat 32 (q k).val)
  (A : ℕ → Prop) [DecidablePred A] (ha : ∀ k < 8, a k (ix2 i 0) = Draw.act A k) (sc : FVec Ideal S256x1024 .f32)

theorem isPick_at (v : IVec S256x1 32) (d : Fin 1024) (hv : v (ix2 i 0) = BitVec.ofNat 32 d.val) (c : Fin 1024) :
    isPick v (ix2 i c) = BitVec.ofBool (decide (d = c)) := by
  pointwise [isPick, columns]
  rw [hv, Words.eq_nat _ _ (by omega) (by omega)]
  congr 1
  exact decide_eq_decide.mpr ⟨fun h => Fin.ext h.symm, fun h => by rw [h]⟩

include hq ha

/-- The counts per column. -/
theorem countTo_at (K : ℕ) (hK : K ≤ 8) (c : Fin 1024) : countTo p a K (ix2 i c) = Draw.count A q K c := by
  induction K with
  | zero => pointwise [countTo]; simp [Draw.count]
  | succ K ih =>
    pointwise [countTo]
    rw [ih (by omega), isPick_at i (p K) (q K) (hq K hK) c, Words.select_bit, ha K hK, Draw.count, Draw.count, Finset.sum_range_succ]

/-- The logarithms of the picked scores. -/
theorem logPickTo_at (K : ℕ) (hK : K ≤ 8) : logPickTo sc p a K (ix2 i 0) = ∑ k ∈ Finset.range K, Draw.act A k * Ideal.log (sc (ix2 i (q k))) := by
  induction K with
  | zero => pointwise [logPickTo]; simp
  | succ K ih =>
    pointwise [logPickTo]
    rw [ih (by omega), Finset.sum_range_succ, ha K hK]
    congr 2
    pointwise [logPick]
    congr 1
    simp only [isPick_at i (p K) (q K) (hq K hK), Words.select_bit]
    simp

theorem rankTo_at (k : ℕ) (hk : k < 8) (K : ℕ) (hK : K ≤ 8) : rankTo p a k K (ix2 i 0) = Draw.act A k + ∑ j ∈ Finset.range K, Draw.act A j * if q j = q k then 1 else 0 := by
  induction K with
  | zero => pointwise [rankTo]; simp [ha k hk]
  | succ K ih =>
    pointwise [rankTo]
    rw [ih (by omega), Finset.sum_range_succ, ha K hK, hq K hK, hq k hk, Words.eq_nat _ _ (by omega) (by omega), Words.widened_bit, add_assoc]
    simp only [Fin.ext_iff]

/-- The logarithms of the ranks. -/
theorem logRankTo_at (K : ℕ) (hK : K ≤ 8) : logRankTo p a K (ix2 i 0) = ∑ k ∈ Finset.range K, Draw.act A k * Ideal.log (max (Draw.rank A q k) 1) := by
  induction K with
  | zero => pointwise [logRankTo]; simp
  | succ K ih =>
    pointwise [logRankTo]
    rw [ih (by omega), Finset.sum_range_succ, ha K hK, rankTo_at p a i q hq A ha K hK K (by omega)]
    rfl

end Counts

/-! The running sums. -/

theorem blockRow_at (v : FVec Ideal S128x256 .f32) (k : ℕ) (h : k < 128) (i : Fin 256) : blockRow v k h (ix2 0 i) = v (ix2 ⟨k, h⟩ i) := by
  pointwise [blockRow]

theorem blockT_at (sc : FVec Ideal S256x1024 .f32) (b : ℕ) (h : b < 8) (k : ℕ) (hk : k < 128) (i : Fin 256) :
    blockT sc b h (ix2 ⟨k, hk⟩ i) = Draw.seq (fun c => sc (ix2 i c)) (128 * b + k) := by
  pointwise [blockT]
  unfold Draw.seq
  rw [dif_pos (by omega)]

theorem prefixRow_at (sc : FVec Ideal S256x1024 .f32) (b : ℕ) (h : b < 8) (i : Fin 256) (k : ℕ) (hk : k < 128) :
    prefixRow (blockT sc b h) k hk (ix2 0 i) = ∑ n ∈ Finset.range (k + 1), Draw.seq (fun c => sc (ix2 i c)) (128 * b + n) := by
  induction k with
  | zero =>
    show blockRow (blockT sc b h) 0 hk (ix2 0 i) = _
    rw [blockRow_at, blockT_at, Finset.sum_range_one]
  | succ k ih =>
    show prefixRow (blockT sc b h) k (Nat.lt_of_succ_lt hk) (ix2 0 i) + blockRow (blockT sc b h) (k + 1) hk (ix2 0 i) = _
    rw [ih, blockRow_at, blockT_at, Finset.sum_range_succ _ (k + 1)]

theorem tileRows_at (sc : FVec Ideal S256x1024 .f32) (b : ℕ) (h : b < 8) (off : FVec Ideal S1x256 .f32) (k : Fin 128) (i : Fin 256)
    (hoff : off (ix2 0 i) = ∑ n ∈ Finset.range (128 * b), Draw.seq (fun c => sc (ix2 i c)) n) :
    tileRows (blockT sc b h) off (ix2 k i) = ∑ n ∈ Finset.range (128 * b + k.val + 1), Draw.seq (fun c => sc (ix2 i c)) n := by
  pointwise [tileRows]
  rw [prefixRow_at, hoff, add_assoc (128 * b), Finset.sum_range_add _ (128 * b) (k.val + 1), add_comm]

theorem carry_at (sc : FVec Ideal S256x1024 .f32) (i : Fin 256) (b : ℕ) (hb : b ≤ 8) :
    carry sc b hb (ix2 0 i) = ∑ n ∈ Finset.range (128 * b), Draw.seq (fun c => sc (ix2 i c)) n := by
  induction b with
  | zero => show Ideal.ofBits .f32 0x00000000#32 = _; simp
  | succ b ih =>
    show lastRow (blockT sc b hb) (carry sc b (Nat.le_of_succ_le hb)) (ix2 0 i) = _
    pointwise [lastRow]
    rw [tileRows_at sc b hb _ 127 i (ih _)]
    rfl

theorem cumTile_at (sc : FVec Ideal S256x1024 .f32) (b : ℕ) (hb : b < 8) (i : Fin 256) (k : Fin 128) :
    cumTile sc b hb (ix2 i k) = ∑ n ∈ Finset.range (128 * b + k.val + 1), Draw.seq (fun c => sc (ix2 i c)) n := by
  unfold cumTile tile
  rw [← tileRows_at sc b hb (carry sc b hb.le) k i (carry_at sc i b hb.le)]
  generalize tileRows (blockT sc b hb) (carry sc b hb.le) = v
  pointwise

theorem sideBySide_at (t : Fin 8 → FVec Ideal S256x128 .f32) (f : ℕ → EReal) (i : Fin 256) (ht : ∀ (b : Fin 8) (k : Fin 128), t b (ix2 i k) = f (128 * b.val + k.val)) (c : Fin 1024) :
    sideBySide t (ix2 i c) = f c.val := by
  pointwise [sideBySide]
  simp only [ht]
  split_ifs <;> (congr 1; simp; try omega)

/-- The body's running sums. -/
theorem cum_at (sc : FVec Ideal S256x1024 .f32) (i : Fin 256) (c : Fin 1024) : cum sc (ix2 i c) = Draw.upTo (fun k => sc (ix2 i k)) c := by
  unfold cum
  rw [sideBySide_at _ (fun n => ∑ m ∈ Finset.range (n + 1), Draw.seq (fun k => sc (ix2 i k)) m) i (fun b k => cumTile_at sc b.val b.isLt i k) c, Draw.upTo_eq]

end Cert.KernelIdeal.Hand

end
-- ==== Proof.KerLin.lean ====
/- The body's linear part read one row at a time: the embedding of queries and tasks, the expected number, the scores, and the
   embedding of the agents. -/
module

public import proofs.«01_k».proof.Proof.KerRow

@[expose] public section

set_option maxRecDepth 16384

noncomputable section

namespace Cert.KernelIdeal.Hand

open Cert.KernelIdeal Cert.KernelIdeal.Gen Idealize.ShloMosaic Idealize.ShloMosaic.TcCoe Idealize.SL.Sem

/-- The embedding of the agents. -/
theorem agents_at (x : FVec Ideal S1024x1024 .f32) (w : FVec Ideal S1024x256 .f32) (b : FVec Ideal S1x256 .f32) (r : Fin 1024) (h : Fin 256) :
    k0_pay1 (F := Ideal) x w b (ix2 r h) = Draw.unit (Draw.lin (fun k => x (ix2 r k)) (fun k h => w (ix2 k h)) fun h => b (ix2 0 h)) h := by
  pointwise [k0_pay1]
  unfold Draw.unit Draw.lin
  rfl

/-- The embedding of queries and tasks. -/
theorem embed_at (q t : FVec Ideal S256x1024 .f32) (w : FVec Ideal S2048x256 .f32) (b : FVec Ideal S1x256 .f32) (i : Fin 256) (h : Fin 256) :
    k1_pay2 (F := Ideal) q t w b (ix2 i h) = Draw.unit (Draw.lin (Draw.join (fun k => q (ix2 i k)) fun k => t (ix2 i k)) (fun k h => w (ix2 k h)) fun h => b (ix2 0 h)) h := by
  unfold Draw.unit
  simp only [Draw.lin_join]
  pointwise [k1_pay2]

/-- The expected number. -/
theorem expected_at (q t : FVec Ideal S256x1024 .f32) (w : FVec Ideal S2048x256 .f32) (b : FVec Ideal S1x256 .f32) (v : FVec Ideal S1x256 .f32) (d : FVec Ideal S1x1 .f32) (i : Fin 256) :
    k1_pay3 (F := Ideal) q t w b v d (ix2 i 0) = Draw.expected (fun h => k1_pay2 (F := Ideal) q t w b (ix2 i h)) (fun h => v (ix2 0 h)) (d (ix2 0 0)) := by
  pointwise [k1_pay3]
  rfl

/-- The expected number rounded and clipped. -/
theorem clip_at (q t : FVec Ideal S256x1024 .f32) (w : FVec Ideal S2048x256 .f32) (b : FVec Ideal S1x256 .f32) (v : FVec Ideal S1x256 .f32) (d : FVec Ideal S1x1 .f32) (i : Fin 256) :
    k1_pay4 (F := Ideal) q t w b v d (ix2 i 0) = Draw.clip (k1_pay3 (F := Ideal) q t w b v d (ix2 i 0)) := by
  pointwise [k1_pay4]
  rw [Words.eight]
  unfold Draw.clip
  rw [Nat.cast_one]

/-- The scores. -/
theorem scores_at (v : FVec Ideal S256x256 .bf16) (a : FVec Ideal S1024x256 .f32) (i : Fin 256) (c : Fin 1024) :
    k1_pay6 (F := Ideal) v a (ix2 i c) = Draw.share (Draw.exps (Draw.logits (fun h => v (ix2 i h)) fun c h => a (ix2 c h))) c := by
  pointwise [k1_pay6]
  rw [Words.neg_inf]
  rfl

end Cert.KernelIdeal.Hand

end
-- ==== Proof.KerBody.lean ====
/- The body's two results, from the blocks it reads, one row at a time. -/
module

public import proofs.«01_k».proof.Proof.KerLin
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.SL.Sem

variable (x0 : Vec Ideal S256x1024 .f32) (x1 : Vec Ideal S256x1024 .f32) (x2 : Vec Ideal S2048x256 .f32) (x3 : Vec Ideal S1x256 .f32)
  (x4 : Vec Ideal S1x256 .f32) (x5 : Vec Ideal S1x1 .f32) (x6 : Vec Ideal S1024x256 .f32) (x7 : Vec Ideal S256x8 .f32)

theorem drawCol_at (i : Fin 256) (k : ℕ) (hk : k < 8) : drawCol x7 k (ix2 i 0) = x7 (ix2 i ⟨k, hk⟩) := by
  interval_cases k <;> (refine congrArg x7 (funext fun a => Fin.ext ?_); fin_cases a <;> simp [drawCol, r1_5])

theorem pay1033_eq : k1_pay1033 x0 x1 x2 x3 x4 x5 x6 x7 = k1_pay3 (F := Ideal) x0 x1 x2 x3 x4 x5 := by
  unfold k1_pay1033
  frame_out

theorem pay1034_eq : k1_pay1034 x0 x1 x2 x3 x4 x5 x6 x7 = k1_pay4 (F := Ideal) x0 x1 x2 x3 x4 x5 := by
  unfold k1_pay1034
  frame_out

theorem pay1036_eq : k1_pay1036 x0 x1 x2 x3 x4 x5 x6 x7 = k1_pay6 (F := Ideal) (k1_pay5 x0 x1 x2 x3) x6 := by
  unfold k1_pay1036 k1_pay1035
  frame_out

theorem out8_at (i : Fin 256) (c : Fin 1024) : out1_8 x0 x1 x2 x3 x4 x5 x6 x7 (ix2 i c)
    = countTo (picks (cum (k1_pay6 (F := Ideal) (k1_pay5 x0 x1 x2 x3) x6)) x7) (actives (k1_pay4 (F := Ideal) x0 x1 x2 x3 x4 x5)) 8 (ix2 i c) := by
  rw [out8_eq, cum_eq, pay1034_eq, pay1036_eq]
  frame_out

theorem out9_at (i : Fin 256) : out1_9 x0 x1 x2 x3 x4 x5 x6 x7 (ix2 i 0)
    = logProb (k1_pay3 (F := Ideal) x0 x1 x2 x3 x4 x5) (k1_pay6 (F := Ideal) (k1_pay5 x0 x1 x2 x3) x6)
      (picks (cum (k1_pay6 (F := Ideal) (k1_pay5 x0 x1 x2 x3) x6)) x7) (actives (k1_pay4 (F := Ideal) x0 x1 x2 x3 x4 x5)) (ix2 i 0) := by
  rw [out9_eq, cum_eq, pay1033_eq, pay1034_eq, pay1036_eq]
  frame_out

theorem count_row (i : Fin 256) : k1_pay3 (F := Ideal) x0 x1 x2 x3 x4 x5 (ix2 i 0)
    = Draw.expected (Draw.embed (fun k => x0 (ix2 i k)) (fun k => x1 (ix2 i k)) (fun k h => x2 (ix2 k h)) fun h => x3 (ix2 0 h)) (fun h => x4 (ix2 0 h)) (x5 (ix2 0 0)) := by
  rw [expected_at]
  simp only [embed_at]
  rfl

theorem scores_row (i : Fin 256) (c : Fin 1024) : k1_pay6 (F := Ideal) (k1_pay5 x0 x1 x2 x3) x6 (ix2 i c)
    = Draw.scores (Draw.embed (fun k => x0 (ix2 i k)) (fun k => x1 (ix2 i k)) (fun k h => x2 (ix2 k h)) fun h => x3 (ix2 0 h)) (fun c h => x6 (ix2 c h)) c := by
  rw [scores_at]
  have h5 : ∀ h : Fin 256, k1_pay5 (F := Ideal) x0 x1 x2 x3 (ix2 i h) = k1_pay2 (F := Ideal) x0 x1 x2 x3 (ix2 i h) := fun h => rfl
  simp only [h5, embed_at]
  rfl

theorem picks_row (i : Fin 256) (k : ℕ) (hk : k < 8) : picks (cum (k1_pay6 (F := Ideal) (k1_pay5 x0 x1 x2 x3) x6)) x7 k (ix2 i 0)
    = BitVec.ofNat 32 (Draw.pick (Draw.upTo (Draw.scores (Draw.embed (fun k => x0 (ix2 i k)) (fun k => x1 (ix2 i k)) (fun k h => x2 (ix2 k h)) fun h => x3 (ix2 0 h)) fun c h => x6 (ix2 c h)))
      (Draw.drawn (fun k => x7 (ix2 i k)) k)).val := by
  unfold picks
  rw [pickOf_at, drawCol_at x7 i k hk]
  simp only [cum_at, scores_row]
  rw [Draw.drawn, dif_pos hk]

theorem actives_row (i : Fin 256) (k : ℕ) (hk : k < 8) : actives (k1_pay4 (F := Ideal) x0 x1 x2 x3 x4 x5) k (ix2 i 0)
    = Draw.act (Draw.Active (Draw.expected (Draw.embed (fun k => x0 (ix2 i k)) (fun k => x1 (ix2 i k)) (fun k h => x2 (ix2 k h)) fun h => x3 (ix2 0 h)) (fun h => x4 (ix2 0 h)) (x5 (ix2 0 0)))) k :=
  actives_at _ i _ (by rw [clip_at, count_row]) k hk

/-- A row of the first result. -/
theorem out8_row (i : Fin 256) (c : Fin 1024) : out1_8 x0 x1 x2 x3 x4 x5 x6 x7 (ix2 i c)
    = Draw.rowSel (fun k => x0 (ix2 i k)) (fun k => x1 (ix2 i k)) (fun k h => x2 (ix2 k h)) (fun h => x3 (ix2 0 h)) (fun h => x4 (ix2 0 h)) (x5 (ix2 0 0)) (fun c h => x6 (ix2 c h)) (fun k => x7 (ix2 i k)) c := by
  rw [out8_at]
  exact countTo_at _ _ i _ (fun k hk => picks_row x0 x1 x2 x3 x6 x7 i k hk) _ (fun k hk => actives_row x0 x1 x2 x3 x4 x5 i k hk) 8 le_rfl c

theorem log_one : Ideal.log ((1 : ℕ) : EReal) = 0 := by
  rw [Nat.cast_one]
  show (if (1 : ℝ) ≤ 0 then ⊥ else ((Real.log 1 : ℝ) : EReal)) = 0
  simp

theorem log_atLeast (n : ℕ) : Ideal.log (max ((n + 1 : ℕ) : EReal) 1) = Ideal.log ((n + 1 : ℕ) : EReal) := by
  rw [max_eq_left]
  exact_mod_cast Nat.le_add_left 1 n

/-- An entry of the second result. -/
theorem out9_row (i : Fin 256) : out1_9 x0 x1 x2 x3 x4 x5 x6 x7 (ix2 i 0)
    = Draw.rowLog (fun k => x0 (ix2 i k)) (fun k => x1 (ix2 i k)) (fun k h => x2 (ix2 k h)) (fun h => x3 (ix2 0 h)) (fun h => x4 (ix2 0 h)) (x5 (ix2 0 0)) (fun c h => x6 (ix2 c h)) (fun k => x7 (ix2 i k)) := by
  have hp := fun k hk => picks_row x0 x1 x2 x3 x6 x7 i k hk
  have ha := fun k hk => actives_row x0 x1 x2 x3 x4 x5 i k hk
  rw [out9_at]
  pointwise [logProb]
  rw [lnGamma_at, logRankTo_at _ _ i _ hp _ ha 8 le_rfl, logPickTo_at _ _ i _ hp _ ha _ 8 le_rfl]
  unfold Draw.rowLog Draw.logProb Draw.selected
  rw [Draw.sum_count_mul, ← Draw.sum_rank _ _ (L := fun n => Ideal.log (n : EReal)) log_one (fun x => Ideal.log (max x 1)) log_atLeast 8 le_rfl]
  simp only [scores_row]
  pointwise [num]
  rw [count_row]

end Cert.KernelIdeal.Hand

end
-- ==== Proof.KerVal.lean ====
/- What the two calls leave in their arrays: the agents' embedding, the counts and the log probabilities, row by row. -/
module

public import proofs.«01_k».proof.Proof.KerBody
public import proofs.«01_k».proof.Proof.Gen.KernelIdeal.Frame
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

theorem idx0 : ∀ t : Fin cfg0.N, win0_0.index t = ![0, 0] ∧ win0_1.index t = ![0, 0] ∧ win0_2.index t = ![0, 0] ∧ win0_3.index t = ![0, 0] :=
  (by decide +kernel : ∀ t : Fin grid0.N, _)

theorem idx1 : ∀ t : Fin cfg1.N, win1_0.index t = ![t.val, 0] ∧ win1_1.index t = ![t.val, 0] ∧ win1_2.index t = ![0, 0] ∧ win1_3.index t = ![0, 0] ∧ win1_4.index t = ![0, 0]
    ∧ win1_5.index t = ![0, 0] ∧ win1_6.index t = ![0, 0] ∧ win1_7.index t = ![t.val, 0] ∧ win1_8.index t = ![t.val, 0] ∧ win1_9.index t = ![t.val, 0] :=
  (by decide +kernel : ∀ t : Fin grid1.N, _)

/-! The reshaped arguments. -/

theorem v0_at (c : Dev nD) (h : Fin 256) : (V1 m ρ c main_v0 : FVec Ideal S1x256 .f32) (ix2 0 h) = (m ((c : Thread nD τ).loc main_arg6) : FVec Ideal S256 .f32) (ix1 h) := by
  have e : (V1 m ρ c main_v0 : FVec Ideal S1x256 .f32) = shapeCast S1x256 (m ((c : Thread nD τ).loc main_arg6) : FVec Ideal S256 .f32) shapeCasts_S256_S1x256 := by
    show StableHlo.after hostOps0 (W0 m ρ c) (Proc.devRef .tc main_v0) = _
    after_results_simp
    rfl
  rw [e]
  pointwise

theorem v2_at (c : Dev nD) (h : Fin 256) : (V3 m ρ c main_v2 : FVec Ideal S1x256 .f32) (ix2 0 h) = (m ((c : Thread nD τ).loc main_arg4) : FVec Ideal S256 .f32) (ix1 h) := by
  have e : (V3 m ρ c main_v2 : FVec Ideal S1x256 .f32) = shapeCast S1x256 (W2 m ρ c (Proc.devRef .tc main_arg4) : FVec Ideal S256 .f32) shapeCasts_S256_S1x256 := by
    show StableHlo.after hostOps1 (W2 m ρ c) (Proc.devRef .tc main_v2) = _
    after_results_simp
    rfl
  rw [e, W2_args m ρ c main_arg4 (by decide)]
  pointwise

theorem v3_at (c : Dev nD) (h : Fin 256) : (V3 m ρ c main_v3 : FVec Ideal S1x256 .f32) (ix2 0 h) = (m ((c : Thread nD τ).loc main_arg7) : FVec Ideal S256x1 .f32) (ix2 h 0) := by
  have e : (V3 m ρ c main_v3 : FVec Ideal S1x256 .f32) = shapeCast S1x256 (W2 m ρ c (Proc.devRef .tc main_arg7) : FVec Ideal S256x1 .f32) shapeCasts_S256x1_S1x256 := by
    show StableHlo.after hostOps1 (W2 m ρ c) (Proc.devRef .tc main_v3) = _
    after_results_simp
    rfl
  rw [e, W2_args m ρ c main_arg7 (by decide)]
  pointwise

theorem v4_at (c : Dev nD) : (V3 m ρ c main_v4 : FVec Ideal S1x1 .f32) (ix2 0 0) = (m ((c : Thread nD τ).loc main_arg8) : FVec Ideal S1 .f32) (ix1 0) := by
  have e : (V3 m ρ c main_v4 : FVec Ideal S1x1 .f32) = shapeCast S1x1 (W2 m ρ c (Proc.devRef .tc main_arg8) : FVec Ideal S1 .f32) shapeCasts_S1_S1x1 := by
    show StableHlo.after hostOps1 (W2 m ρ c) (Proc.devRef .tc main_v4) = _
    after_results_simp
    rfl
  rw [e, W2_args m ρ c main_arg8 (by decide)]
  pointwise

/-- The first call's array: the agents' embedding. -/
theorem agents_final (c : Dev nD) : (dat0 (V1 m ρ) c).arrAt 3 cfg0.N
    = k0_pay1 (F := Ideal) (m ((c : Thread nD τ).loc main_arg2)) (m ((c : Thread nD τ).loc main_arg5)) (V1 m ρ c main_v0) := by
  have e2 : V1 m ρ c main_arg2 = m ((c : Thread nD τ).loc main_arg2) := W1_args m ρ c main_arg2 (by decide)
  have e5 : V1 m ρ c main_arg5 = m ((c : Thread nD τ).loc main_arg5) := W1_args m ρ c main_arg5 (by decide)
  rw [← e2, ← e5]
  refine (dat0 (V1 m ρ) c).arrAt_eq_of_after_last 3 t0_0 (by decide +kernel) _ fun j => ?_
  blk_simp
  rw [after0_3]
  frame_out
  blk_point [iblk0, idx0 t0_0]

/-- An agent's embedding, from the arguments. -/
theorem agent_at (c : Dev nD) (a : Fin 1024) (h : Fin 256) : (V3 m ρ c main_v1 : FVec Ideal S1024x256 .f32) (ix2 a h)
    = Draw.agent (fun k => (m ((c : Thread nD τ).loc main_arg2) : FVec Ideal S1024x1024 .f32) (ix2 a k)) (fun k h => (m ((c : Thread nD τ).loc main_arg5) : FVec Ideal S1024x256 .f32) (ix2 k h))
      (fun h => (m ((c : Thread nD τ).loc main_arg6) : FVec Ideal S256 .f32) (ix1 h)) h := by
  have e : V3 m ρ c main_v1 = k0_pay1 (F := Ideal) (m ((c : Thread nD τ).loc main_arg2)) (m ((c : Thread nD τ).loc main_arg5)) (V1 m ρ c main_v0) :=
    (W3_of m ρ c main_v1 (by decide)).trans ((W2_arr m ρ c 3).trans (agents_final m ρ c))
  rw [e]
  refine (agents_at _ _ _ a h).trans ?_
  exact congrArg (fun b => Draw.agent _ _ b h) (funext (v0_at m ρ c))

/-! The blocks of the second call. -/

/-- The array's row that a block's row is. -/
def rowOf (t : Fin cfg1.N) (i : Fin 256) : Fin 16384 := ⟨256 * t.val + i.val, by
  have h : cfg1.N = 64 := by decide
  have := t.isLt
  omega⟩

theorem blk0 (c : Dev nD) (t : Fin cfg1.N) (i : Fin 256) (k : Fin 1024) : (iblk1 (V3 m ρ) c 0 t : FVec Ideal S256x1024 .f32) (ix2 i k) = (m ((c : Thread nD τ).loc main_arg0) : FVec Ideal S16384x1024 .f32) (ix2 (rowOf t i) k) := by
  have e : V3 m ρ c main_arg0 = m ((c : Thread nD τ).loc main_arg0) := W3_args m ρ c main_arg0 (by decide)
  rw [← e]
  blk_ext [iblk1, idx1 t, rowOf]

theorem blk1 (c : Dev nD) (t : Fin cfg1.N) (i : Fin 256) (k : Fin 1024) : (iblk1 (V3 m ρ) c 1 t : FVec Ideal S256x1024 .f32) (ix2 i k) = (m ((c : Thread nD τ).loc main_arg1) : FVec Ideal S16384x1024 .f32) (ix2 (rowOf t i) k) := by
  have e : V3 m ρ c main_arg1 = m ((c : Thread nD τ).loc main_arg1) := W3_args m ρ c main_arg1 (by decide)
  rw [← e]
  blk_ext [iblk1, idx1 t, rowOf]

theorem blk2 (c : Dev nD) (t : Fin cfg1.N) (k : Fin 2048) (h : Fin 256) : (iblk1 (V3 m ρ) c 2 t : FVec Ideal S2048x256 .f32) (ix2 k h) = (m ((c : Thread nD τ).loc main_arg3) : FVec Ideal S2048x256 .f32) (ix2 k h) := by
  have e : V3 m ρ c main_arg3 = m ((c : Thread nD τ).loc main_arg3) := W3_args m ρ c main_arg3 (by decide)
  rw [← e]
  blk_ext [iblk1, idx1 t]

theorem blk3 (c : Dev nD) (t : Fin cfg1.N) (h : Fin 256) : (iblk1 (V3 m ρ) c 3 t : FVec Ideal S1x256 .f32) (ix2 0 h) = (m ((c : Thread nD τ).loc main_arg4) : FVec Ideal S256 .f32) (ix1 h) := by
  rw [← v2_at m ρ c h]
  blk_ext [iblk1, idx1 t]

theorem blk4 (c : Dev nD) (t : Fin cfg1.N) (h : Fin 256) : (iblk1 (V3 m ρ) c 4 t : FVec Ideal S1x256 .f32) (ix2 0 h) = (m ((c : Thread nD τ).loc main_arg7) : FVec Ideal S256x1 .f32) (ix2 h 0) := by
  rw [← v3_at m ρ c h]
  blk_ext [iblk1, idx1 t]

theorem blk5 (c : Dev nD) (t : Fin cfg1.N) : (iblk1 (V3 m ρ) c 5 t : FVec Ideal S1x1 .f32) (ix2 0 0) = (m ((c : Thread nD τ).loc main_arg8) : FVec Ideal S1 .f32) (ix1 0) := by
  rw [← v4_at m ρ c]
  blk_ext [iblk1, idx1 t]

theorem blk6 (c : Dev nD) (t : Fin cfg1.N) (a : Fin 1024) (h : Fin 256) : (iblk1 (V3 m ρ) c 6 t : FVec Ideal S1024x256 .f32) (ix2 a h)
    = Draw.agent (fun k => (m ((c : Thread nD τ).loc main_arg2) : FVec Ideal S1024x1024 .f32) (ix2 a k)) (fun k h => (m ((c : Thread nD τ).loc main_arg5) : FVec Ideal S1024x256 .f32) (ix2 k h))
      (fun h => (m ((c : Thread nD τ).loc main_arg6) : FVec Ideal S256 .f32) (ix1 h)) h := by
  rw [← agent_at m ρ c a h]
  blk_ext [iblk1, idx1 t]

theorem blk7 (c : Dev nD) (t : Fin cfg1.N) (i : Fin 256) (k : Fin 8) : (iblk1 (V3 m ρ) c 7 t : FVec Ideal S256x8 .f32) (ix2 i k) = (m ((c : Thread nD τ).loc main_arg9) : FVec Ideal S16384x8 .f32) (ix2 (rowOf t i) k) := by
  have e : V3 m ρ c main_arg9 = m ((c : Thread nD τ).loc main_arg9) := W3_args m ρ c main_arg9 (by decide)
  rw [← e]
  blk_ext [iblk1, idx1 t, rowOf]

section Spec

variable (a0 a1 : FVec Ideal S16384x1024 .f32) (a2 : FVec Ideal S1024x1024 .f32) (a3 : FVec Ideal S2048x256 .f32) (a4 : FVec Ideal S256 .f32) (a5 : FVec Ideal S1024x256 .f32)
  (a6 : FVec Ideal S256 .f32) (a7 : FVec Ideal S256x1 .f32) (a8 : FVec Ideal S1 .f32) (a9 : FVec Ideal S16384x8 .f32)

/-- The counts of all rows, from the arguments. -/
def selOf : FVec Ideal S16384x1024 .f32 := fun j => Draw.rowSel (fun k => a0 (ix2 (j 0) k)) (fun k => a1 (ix2 (j 0) k)) (fun k h => a3 (ix2 k h)) (fun h => a4 (ix1 h)) (fun h => a7 (ix2 h 0)) (a8 (ix1 0))
  (fun c => Draw.agent (fun k => a2 (ix2 c k)) (fun k h => a5 (ix2 k h)) fun h => a6 (ix1 h)) (fun k => a9 (ix2 (j 0) k)) (j 1)

/-- The log probabilities of all rows, from the arguments. -/
def logOf : FVec Ideal S16384x1 .f32 := fun j => Draw.rowLog (fun k => a0 (ix2 (j 0) k)) (fun k => a1 (ix2 (j 0) k)) (fun k h => a3 (ix2 k h)) (fun h => a4 (ix1 h)) (fun h => a7 (ix2 h 0)) (a8 (ix1 0))
  (fun c => Draw.agent (fun k => a2 (ix2 c k)) (fun k h => a5 (ix2 k h)) fun h => a6 (ix1 h)) (fun k => a9 (ix2 (j 0) k))

end Spec

/-- The first result's array after the run. -/
theorem final8 (c : Dev nD) : (dat1 (V3 m ρ) c).arrAt 8 cfg1.N
    = selOf (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)) := by
  refine (dat1 (V3 m ρ) c).arrAt_eq_of_covers 8 _ (by decide +kernel) fun t _ y => ?_
  blk_simp
  rw [after1_8]
  obtain ⟨i, k, rfl⟩ : ∃ (i : Fin 256) (k : Fin 1024), y = ix2 i k := ⟨y 0, y 1, by funext a; fin_cases a <;> rfl⟩
  have hj : ((cfg1.win 8).blk t).view.emb (ix2 i k) = (ix2 (rowOf t i) k : S16384x1024.Idx) := by blk_ext [idx1 t, rowOf]
  rw [hj]
  refine (out8_row _ _ _ _ _ _ _ _ i k).trans ?_
  exact Draw.row_congr (fun q t w b v d a u => Draw.rowSel q t w b v d a u k) (blk0 m ρ c t i) (blk1 m ρ c t i) (blk2 m ρ c t) (blk3 m ρ c t) (blk4 m ρ c t) (blk5 m ρ c t) (blk6 m ρ c t) (blk7 m ρ c t i)

/-- The second result's array after the run. -/
theorem final9 (c : Dev nD) : (dat1 (V3 m ρ) c).arrAt 9 cfg1.N
    = logOf (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)) := by
  refine (dat1 (V3 m ρ) c).arrAt_eq_of_covers 9 _ (by decide +kernel) fun t _ y => ?_
  blk_simp
  rw [after1_9]
  obtain ⟨i, rfl⟩ : ∃ (i : Fin 256), y = ix2 i 0 := ⟨y 0, by
    funext a
    fin_cases a
    · rfl
    · exact Subsingleton.elim (α := Fin 1) _ _⟩
  have hj : ((cfg1.win 9).blk t).view.emb (ix2 i 0) = (ix2 (rowOf t i) 0 : S16384x1.Idx) := by blk_ext [idx1 t, rowOf]
  rw [hj]
  refine (out9_row _ _ _ _ _ _ _ _ i).trans ?_
  exact Draw.row_congr Draw.rowLog (blk0 m ρ c t i) (blk1 m ρ c t i) (blk2 m ρ c t) (blk3 m ρ c t) (blk4 m ρ c t) (blk5 m ρ c t) (blk6 m ρ c t) (blk7 m ρ c t i)

end Cert.KernelIdeal.Hand

end
-- ==== Proof.KerRun.lean ====
/- The run of the idealized kernel, its two results stated by the arguments. The set-up is the generated frame's. -/
module

public import proofs.«01_k».proof.Proof.KerVal

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with the two results' arrays at the rows' counts and log probabilities and the arguments unchanged. -/
theorem run : θ_run defs (onTc (τ := τ) (main (F := Ideal))) ⟨m, fun _ => 0, ρ⟩ (fun r => ∀ c : Dev nD,
      r.2.mem ((c.tc : Thread nD τ).loc main_v5_0) = selOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v5_1) = logOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v5_0 (by decide))).trans ((W4_arr m ρ c 8).trans (final8 m ρ c)),
       (h c _ (mem_uc main_v5_1 (by decide))).trans ((W4_arr m ρ c 9).trans (final9 m ρ c)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Hand

end
-- ==== Proof.RefRow.lean ====
/- The reference's arrays read at one row. -/
module

public import proofs.«01_k».proof.Proof.RefRun
public import proofs.«01_k».proof.Proof.Words
public import Idealize.ShloMosaic.Lib.Pipeline.ValueKit

@[expose] public section

set_option maxRecDepth 16384

noncomputable section

namespace Cert.ReferenceIdeal.Hand

open Cert.ReferenceIdeal Cert.ReferenceIdeal.Gen Idealize.ShloMosaic Idealize.ShloMosaic.TcCoe Idealize.SL.Sem

theorem rQraw_at (q t : FVec Ideal S16384x1024 .f32) (w : FVec Ideal S2048x256 .f32) (b : FVec Ideal S256 .f32) (r : Fin 16384) (h : Fin 256) :
    rQraw q t w b (ix2 r h) = Draw.lin (Draw.join (fun k => q (ix2 r k)) fun k => t (ix2 r k)) (fun k h => w (ix2 k h)) (fun h => b (ix1 h)) h := by
  pointwise [rQraw, joinFeatures]
  rw [Draw.lin_join]

theorem rQn_at (x : FVec Ideal S16384x256 .f32) (r : Fin 16384) (h : Fin 256) : rQn x (ix2 r h) = Draw.unit (fun k => x (ix2 r k)) h := by
  pointwise [rQn, col]
  unfold Draw.unit
  rfl

theorem rLraw_at (l : FVec Ideal S1024x1024 .f32) (w : FVec Ideal S1024x256 .f32) (b : FVec Ideal S256 .f32) (r : Fin 1024) (h : Fin 256) :
    rLraw l w b (ix2 r h) = Draw.lin (fun k => l (ix2 r k)) (fun k h => w (ix2 k h)) (fun h => b (ix1 h)) h := by
  pointwise [rLraw]
  unfold Draw.lin
  rfl

theorem rLn_at (x : FVec Ideal S1024x256 .f32) (r : Fin 1024) (h : Fin 256) : rLn x (ix2 r h) = Draw.unit (fun k => x (ix2 r k)) h := by
  pointwise [rLn]
  unfold Draw.unit
  rfl

theorem rLnf_at (qt : FVec Ideal S16384x256 .f32) (w : FVec Ideal S256x1 .f32) (b : FVec Ideal S1 .f32) (r : Fin 16384) :
    rLnf qt w b (ix2 r 0) = Draw.expected (fun k => qt (ix2 r k)) (fun k => w (ix2 k 0)) (b (ix1 0)) := by
  pointwise [rLnf, col]
  unfold Draw.expected
  rfl

theorem rNum_at (l : FVec Ideal S16384x1 .f32) (r : Fin 16384) : ∃ n : ℕ, n ≤ 8 ∧ rNum l (ix2 r 0) = BitVec.ofNat 32 n ∧ Draw.clip (l (ix2 r 0)) = (n : EReal) := by
  obtain ⟨n, -, h8, hn⟩ := Words.clipped (l (ix2 r 0))
  refine ⟨n, h8, ?_, hn⟩
  pointwise [rNum]
  rw [Words.sitofp_nat 8 (by norm_num), Words.sitofp_nat 1 (by norm_num), hn, Words.fptosi_nat n (by omega)]

theorem rMask_at (l : FVec Ideal S16384x1 .f32) (r : Fin 16384) (b : Fin 8) : rMask (F := Ideal) (rNum l) (ix2 r b) = Draw.act (Draw.Active (l (ix2 r 0))) b.val := by
  obtain ⟨n, h8, hn, hc⟩ := rNum_at l r
  pointwise [rMask]
  rw [hn, Words.add_nat, Words.sge_nat _ _ (by omega) (by omega), Words.bit]
  unfold Draw.act
  refine if_congr ?_ rfl rfl
  unfold Draw.Active
  rw [hc, Nat.cast_le, Nat.add_comm]

theorem rLogits_at (qt : FVec Ideal S16384x256 .f32) (le : FVec Ideal S1024x256 .f32) (r : Fin 16384) (c : Fin 1024) :
    rLogits qt le (ix2 r c) = Draw.logits (fun k => qt (ix2 r k)) (fun c h => le (ix2 c h)) c := by
  pointwise [rLogits]
  unfold Draw.logits
  rfl

theorem rMax_at (x : FVec Ideal S16384x1024 .f32) (r : Fin 16384) :
    Host.reduce (FloatOps.maximumf (F := Ideal) (φ := .f32)) x (constant S_ .f32 0xFF800000#32 : FVec Ideal S_ .f32) reducesTo_S16384x1024_S16384_d1 h_S_ (ix1 r)
      = Finset.univ.fold max ⊥ fun k : Fin 1024 => x (ix2 r k) := by
  pointwise
  rw [Words.neg_inf]

theorem aboveBot_at (m : FVec Ideal S16384 .f32) (r : Fin 16384) :
    maximumf (broadcastInDim S16384 ![] bcast_S_S16384 (constant S_ .f32 0xFF800000#32)) m (ix1 r) = m (ix1 r) := by
  pointwise
  rw [Words.neg_inf, max_eq_right bot_le]

theorem expMinus_at (x : FVec Ideal S16384x1024 .f32) (m : FVec Ideal S16384 .f32) (r : Fin 16384) (c : Fin 1024) :
    Host.exp (subf x (rAlong m)) (ix2 r c) = Ideal.exp (x (ix2 r c) - m (ix1 r)) := by
  pointwise [rAlong]

theorem rExp_at (x : FVec Ideal S16384x1024 .f32) (r : Fin 16384) (c : Fin 1024) : rExp x (ix2 r c) = Draw.exps (fun k => x (ix2 r k)) c := by
  unfold rExp
  rw [expMinus_at, aboveBot_at, rMax_at]
  rfl

theorem rShare_at (e : FVec Ideal S16384x1024 .f32) (r : Fin 16384) (c : Fin 1024) : rShare e (ix2 r c) = Draw.share (fun k => e (ix2 r k)) c := by
  pointwise [rShare, rAlong]
  unfold Draw.share
  rfl

theorem rExceeds_at (cum : FVec Ideal S16384x1024 .f32) (d : FVec Ideal S16384x8 .f32) (r : Fin 16384) (i : Fin 8) (k : Fin 1024) :
    rExceeds cum d (ix3 r i k) = if d (ix2 r i) < cum (ix2 r k) then 1 else 0 := by
  pointwise [rExceeds]
  exact Words.bit _

theorem rFact_at (s : FVec Ideal S16384x1024 .f32) (r : Fin 16384) (c : Fin 1024) : rFact s (ix2 r c) = Draw.factLog (fun n => Ideal.log (n : EReal)) (s (ix2 r c)) := by
  pointwise [rFact, rTwoToEight]
  unfold Draw.factLog
  refine Finset.sum_congr rfl fun i _ => ?_
  rw [Words.add_nat, Words.sitofp_nat _ (by omega), Nat.add_comm 2]

theorem rGamma_at (z : FVec Ideal S16384x1 .f32) (r : Fin 16384) : rGamma z (ix2 r 0) = Draw.lanczos (z (ix2 r 0)) := by
  pointwise [rGamma, rSeries, rTerm, col]
  unfold Draw.lanczos
  rfl

theorem refLogp_at (lnf : FVec Ideal S16384x1 .f32) (s sel : FVec Ideal S16384x1024 .f32) (r : Fin 16384) :
    refLogp lnf s sel (ix2 r 0) = Draw.lanczos (lnf (ix2 r 0) + 1) - (∑ c : Fin 1024, Draw.factLog (fun n => Ideal.log (n : EReal)) (sel (ix2 r c)))
      + ∑ c : Fin 1024, sel (ix2 r c) * Ideal.log (s (ix2 r c)) := by
  pointwise [refLogp, rOut, rRowSum]
  simp only [rFact_at, rGamma_at]
  pointwise [col]

end Cert.ReferenceIdeal.Hand

end
-- ==== Proof.RefFold.lean ====
/- The reference's running sums, its arg-max and its scatter, read at one entry. -/
module

public import proofs.«01_k».proof.Proof.RefRun
public import proofs.«01_k».proof.Proof.Words
public import Idealize.ShloMosaic.Lib.Routing.Ops
public import Idealize.ShloMosaic.Lib.Routing.OpsPair
public import Idealize.ShloMosaic.Lib.Pipeline.ValueKit

@[expose] public section

set_option maxRecDepth 16384

noncomputable section

namespace Cert.ReferenceIdeal.Hand

open Cert.ReferenceIdeal Cert.ReferenceIdeal.Gen Idealize.ShloMosaic Idealize.ShloMosaic.TcCoe Idealize.SL.Sem Finset

/-- Adding up a list's terms one after another is their sum. -/
theorem foldl_add_eq_sum {M : ℕ} (g : Fin M → EReal) : (List.finRange M).foldl (fun r n => r + g n) 0 = ∑ n, g n := by
  rw [Fin.sum_univ_def, List.sum_eq_foldl, List.foldl_map]

/-- A window that ends at position `c` sums the entries up to `c`. -/
theorem sum_window (F : ℕ → EReal) (M c : ℕ) (hc : c ≤ M) : (∑ n ∈ range (M + 1), if M ≤ c + n then F (c + n - M) else 0) = ∑ n ∈ range (c + 1), F n := by
  rw [show M + 1 = (M - c) + (c + 1) by omega, sum_range_add, sum_eq_zero fun n hn => if_neg (by have := mem_range.mp hn; omega), zero_add]
  refine sum_congr rfl fun n hn => ?_
  rw [if_pos (by omega)]
  congr 1
  omega

/-- The window sum along the rows of a matrix: entry `c` of a row is the sum of the row's entries up to `c`. -/
theorem window_row {R M N : ℕ} (hN : M + 1 = N) (x : (Routing.shape2 R N).Idx → EReal)
    (h : (Routing.shape2 R N).ReduceWindows (![1, N] : Fin 2 → ℕ) ![1, 1] ![0, M] ![0, 0] (Routing.shape2 R N)) (hu : 0 < (⟨0, ![]⟩ : Shape).numel) (r : Fin R) (c : Fin N) :
    Host.reduceWindow (· + ·) ![1, N] ![1, 1] ![0, M] ![0, 0] x (fun _ : (⟨0, ![]⟩ : Shape).Idx => (0 : EReal)) h hu (ix2 r c)
      = ∑ n ∈ range (c.val + 1), if hn : n < N then x (ix2 r ⟨n, hn⟩) else 0 := by
  subst hN
  have hc := c.isLt
  rw [← sum_window (fun n => if hn : n < M + 1 then x (ix2 r ⟨n, hn⟩) else 0) M c.val (by omega)]
  unfold Host.reduceWindow
  dsimp only
  refine (foldl_add_eq_sum _).trans ?_
  rw [← Fin.sum_univ_eq_sum_range (fun n => if M ≤ c.val + n then (if hn : c.val + n - M < M + 1 then x (ix2 r ⟨c.val + n - M, hn⟩) else 0) else 0) (M + 1)]
  refine Fintype.sum_equiv (finCongr (Routing.numel2 (M + 1))) _ _ fun n => ?_
  have hw0 : ((Routing.shape2 1 (M + 1)).rowMajor.symm n 0).val = 0 := by rw [Routing.symm2]; rfl
  have hw : ((Routing.shape2 1 (M + 1)).rowMajor.symm n 1).val = n.val := by rw [Routing.symm2]; rfl
  have hn : n.val < M + 1 := (n.cast (Routing.numel2 _)).isLt
  have hr := r.isLt
  show _ = if M ≤ c.val + n.val then (if hn : c.val + n.val - M < M + 1 then x (ix2 r ⟨c.val + n.val - M, hn⟩) else 0) else 0
  split
  · next hin =>
    have h1 := hin 1
    change M ≤ c.val * 1 + ((Routing.shape2 1 (M + 1)).rowMajor.symm n 1).val
      ∧ c.val * 1 + ((Routing.shape2 1 (M + 1)).rowMajor.symm n 1).val - M < M + 1 at h1
    rw [hw] at h1
    rw [if_pos (by omega), dif_pos (by omega)]
    refine congrArg x (funext fun a => Fin.ext ?_)
    match a with
    | ⟨0, _⟩ =>
      show r.val * 1 + ((Routing.shape2 1 (M + 1)).rowMajor.symm n 0).val - 0 = r.val
      rw [hw0]; omega
    | ⟨1, _⟩ =>
      show c.val * 1 + ((Routing.shape2 1 (M + 1)).rowMajor.symm n 1).val - M = c.val + n.val - M
      rw [hw, Nat.mul_one]
  · next hin =>
    rw [if_neg fun hle => hin fun a => by
      match a with
      | ⟨0, _⟩ =>
        show 0 ≤ r.val * 1 + ((Routing.shape2 1 (M + 1)).rowMajor.symm n 0).val ∧ r.val * 1 + ((Routing.shape2 1 (M + 1)).rowMajor.symm n 0).val - 0 < R
        rw [hw0]
        omega
      | ⟨1, _⟩ =>
        show M ≤ c.val * 1 + ((Routing.shape2 1 (M + 1)).rowMajor.symm n 1).val
          ∧ c.val * 1 + ((Routing.shape2 1 (M + 1)).rowMajor.symm n 1).val - M < M + 1
        rw [hw]
        omega]

/-- The reference's running sums. -/
theorem rCum_at (s : FVec Ideal S16384x1024 .f32) (r : Fin 16384) (c : Fin 1024) : rCum s (ix2 r c) = Draw.upTo (fun k => s (ix2 r k)) c := by
  rw [Draw.upTo_eq]
  have h0 : broadcastInDim S_ ![] bcast_S_S_ (constant S_ .f32 0x00000000#32 : FVec Ideal S_ .f32) (Shape.Idx.first h_S_) = (0 : EReal) := Ideal.ofBits_zero_f32
  unfold rCum
  show Ideal.hostReduceWindowAdd ![1, 1024] ![1, 1] ![0, 1023] ![0, 0] reduceWindows_S16384x1024_S16384x1024_w1s1p0_0_w1024s1p1023_0 s (broadcastInDim S_ ![] bcast_S_S_ (constant S_ .f32 0x00000000#32 : FVec Ideal S_ .f32) (Shape.Idx.first h_S_)) (ix2 r c) = _
  rw [h0]
  exact window_row (R := 16384) (M := 1023) (N := 1024) rfl s reduceWindows_S16384x1024_S16384x1024_w1s1p0_0_w1024s1p1023_0 (by decide) r c

/-! The arg-max: the pair of value and position that beats all others, the value first and the smaller position next. -/

/-- A pair is at least as good as another: a larger value, or the same value at a position that is not larger. -/
def Beats (a b : EReal × BitVec 32) : Prop := b.1 < a.1 ∨ b.1 = a.1 ∧ a.2.toInt ≤ b.2.toInt

theorem Beats.refl (a : EReal × BitVec 32) : Beats a a := .inr ⟨rfl, le_rfl⟩

theorem Beats.trans {a b c : EReal × BitVec 32} (h : Beats a b) (h' : Beats b c) : Beats a c := by
  rcases h with h | ⟨h, hi⟩ <;> rcases h' with h' | ⟨h', hi'⟩
  · exact .inl (h'.trans h)
  · exact .inl (h' ▸ h)
  · exact .inl (h ▸ h')
  · exact .inr ⟨h'.trans h, hi.trans hi'⟩

theorem reducer_eq (a b : EReal × BitVec 32) : reducer_argmax_f32_i32 (F := Ideal) a b = if b.1 < a.1 ∨ a.1 = b.1 ∧ a.2.toInt < b.2.toInt then a else b := by
  obtain ⟨a1, a2⟩ := a
  obtain ⟨b1, b2⟩ := b
  have hne : FloatOps.cmpf (F := Ideal) (φ := .f32) .une a1 a1 = 0#1 := by simp [Ideal.cmpf_def, Ideal.cmp]
  unfold reducer_argmax_f32_i32
  dsimp only
  rw [hne]
  simp only [Ideal.cmpf_def, Ideal.cmp, IntOp.cmpi, BitVec.slt]
  by_cases h1 : b1 < a1 <;> by_cases h2 : a1 = b1 <;> by_cases h3 : a2.toInt < b2.toInt <;>
    simp [h1, h2, h3, IntOp.ori, IntOp.andi, Scalar.select]

theorem reducer_spec (a b : EReal × BitVec 32) : (reducer_argmax_f32_i32 (F := Ideal) a b = a ∨ reducer_argmax_f32_i32 (F := Ideal) a b = b)
    ∧ Beats (reducer_argmax_f32_i32 (F := Ideal) a b) a ∧ Beats (reducer_argmax_f32_i32 (F := Ideal) a b) b := by
  rw [reducer_eq]
  split
  · next h =>
    refine ⟨.inl rfl, Beats.refl a, ?_⟩
    rcases h with h | ⟨h, hi⟩
    · exact .inl h
    · exact .inr ⟨h.symm, hi.le⟩
  · next h =>
    refine ⟨.inr rfl, ?_, Beats.refl b⟩
    rw [not_or, not_lt, not_and, not_lt] at h
    rcases h.1.lt_or_eq with h' | h'
    · exact .inl h'
    · exact .inr ⟨h', h.2 h'⟩

theorem foldl_spec (l : List (EReal × BitVec 32)) : ∀ a : EReal × BitVec 32,
    (l.foldl (reducer_argmax_f32_i32 (F := Ideal)) a = a ∨ l.foldl (reducer_argmax_f32_i32 (F := Ideal)) a ∈ l)
    ∧ Beats (l.foldl (reducer_argmax_f32_i32 (F := Ideal)) a) a ∧ ∀ b ∈ l, Beats (l.foldl (reducer_argmax_f32_i32 (F := Ideal)) a) b := by
  induction l with
  | nil => exact fun a => ⟨.inl rfl, Beats.refl a, nofun⟩
  | cons b l ih =>
    intro a
    obtain ⟨h1, h2, h3⟩ := ih (reducer_argmax_f32_i32 (F := Ideal) a b)
    obtain ⟨g1, g2, g3⟩ := reducer_spec a b
    rw [List.foldl_cons]
    refine ⟨?_, h2.trans g2, fun c hc => ?_⟩
    · rcases h1 with h1 | h1
      · rcases g1 with g1 | g1
        · exact .inl (h1.trans g1)
        · exact .inr (by rw [h1, g1]; exact List.mem_cons_self)
      · exact .inr (List.mem_cons_of_mem _ h1)
    · rcases List.mem_cons.mp hc with rfl | hc
      · exact h2.trans g3
      · exact h3 c hc

/-- Every entry that reduces to a position is in the position's list. -/
theorem mem_fiber {s t : Shape} {axes : List (Fin s.rank)} (x : s.Idx → EReal) (y : s.Idx → BitVec 32) (h : s.ReducesTo axes t) (j : t.Idx) (i : s.Idx) (hi : h.drop i = j) :
    (x i, y i) ∈ Host.argReduceFiber x y h j := by
  unfold Host.argReduceFiber
  refine List.mem_map.mpr ⟨s.rowMajor i, List.mem_filter.mpr ⟨List.mem_finRange _, decide_eq_true ?_⟩, ?_⟩
  · rw [Equiv.symm_apply_apply]; exact hi
  · rw [Equiv.symm_apply_apply]

/-- The list of a position holds only entries that reduce to it. -/
theorem of_mem_fiber {s t : Shape} {axes : List (Fin s.rank)} (x : s.Idx → EReal) (y : s.Idx → BitVec 32) (h : s.ReducesTo axes t) (j : t.Idx) (b : EReal × BitVec 32)
    (hb : b ∈ Host.argReduceFiber x y h j) : ∃ i, h.drop i = j ∧ b = (x i, y i) := by
  unfold Host.argReduceFiber at hb
  obtain ⟨n, hn, rfl⟩ := List.mem_map.mp hb
  exact ⟨s.rowMajor.symm n, of_decide_eq_true (List.mem_filter.mp hn).2, rfl⟩

/-- The positions an arg-max finds. -/
def argPos {s t u : Shape} {axes : List (Fin s.rank)} {F : FTy → Type} [FloatOps F] {φ : FTy} {β : Type} (f : F φ × β → F φ × β → F φ × β) (x : FVec F s φ) (y : s.Idx → β) (ix : FVec F u φ) (iy : u.Idx → β)
    (h : s.ReducesTo axes t) (hu : 0 < u.numel) : t.Idx → β := fun j => (Host.argReduce f x y ix iy h hu j).2

/-- The arg-max is the position of an entry that beats all others, if some entry is above negative infinity and none is below it. -/
theorem argReduce_spec {s t u : Shape} {axes : List (Fin s.rank)} (x : FVec Ideal s .f32) (y : s.Idx → BitVec 32) (ix : FVec Ideal u .f32) (iy : u.Idx → BitVec 32)
    (h : s.ReducesTo axes t) (hu : 0 < u.numel) (j : t.Idx) (hix : ix (Shape.Idx.first hu) = (⊥ : EReal)) (i0 : s.Idx) (hi0 : h.drop i0 = j) (hx0 : x i0 ≠ (⊥ : EReal)) :
    ∃ i, h.drop i = j ∧ argPos (F := Ideal) (φ := .f32) reducer_argmax_f32_i32 x y ix iy h hu j = y i ∧ ∀ k, h.drop k = j → Beats (x i, y i) (x k, y k) := by
  unfold argPos
  rw [Ideal.argReduce_eq_reduce2, Host.reduce2_eq_foldl_fiber, hix]
  obtain ⟨h1, -, h3⟩ := foldl_spec (Host.argReduceFiber x y h j) (⊥, iy (Shape.Idx.first hu))
  rcases h1 with h1 | h1
  · exfalso
    have := h3 _ (mem_fiber x y h j i0 hi0)
    rw [h1] at this
    rcases this with h' | ⟨h', -⟩
    · exact not_lt_bot h'
    · exact hx0 h'
  · obtain ⟨i, hi, hb⟩ := of_mem_fiber x y h j _ h1
    refine ⟨i, hi, congrArg Prod.snd hb, fun k hk => ?_⟩
    rw [← hb]
    exact h3 _ (mem_fiber x y h j k hk)

theorem drop_at (r : Fin 16384) (i : Fin 8) (k : Fin 1024) : reducesTo_S16384x8x1024_S16384x8_d2.drop (ix3 r i k) = ix2 r i := by
  funext a; fin_cases a <;> rfl

theorem of_drop (r : Fin 16384) (i : Fin 8) (v : S16384x8x1024.Idx) (h : reducesTo_S16384x8x1024_S16384x8_d2.drop v = ix2 r i) : ∃ k : Fin 1024, v = ix3 r i k := by
  refine ⟨v 2, ?_⟩
  funext a
  fin_cases a
  · exact congrFun h 0
  · exact congrFun h 1
  · rfl

theorem rIdx_eq {F : FTy → Type} [FloatOps F] (x : FVec F S16384x8x1024 .f32) : rIdx x = argPos (F := F) (φ := .f32) reducer_argmax_f32_i32 x (iotaInDim S16384x8x1024 32 2) (constant S_ .f32 0xFF800000#32) (constantI S_ 32 0#32)
    reducesTo_S16384x8x1024_S16384x8_d2 h_S_ := by
  delta rIdx argPos
  with_reducible rfl

/-- The arg-max is the first position with the largest value, if no value is negative infinity. -/
theorem rIdx_at (x : FVec Ideal S16384x8x1024 .f32) (r : Fin 16384) (i : Fin 8) (hx : ∀ k : Fin 1024, x (ix3 r i k) ≠ ⊥) :
    ∃ p : Fin 1024, rIdx x (ix2 r i) = BitVec.ofNat 32 p.val ∧ (∀ k : Fin 1024, x (ix3 r i k) ≤ x (ix3 r i p)) ∧ ∀ k < p, x (ix3 r i k) < x (ix3 r i p) := by
  obtain ⟨v, hv, he, hb⟩ := argReduce_spec x (iotaInDim S16384x8x1024 32 2) (constant S_ .f32 0xFF800000#32) (constantI S_ 32 0#32) reducesTo_S16384x8x1024_S16384x8_d2 h_S_
    (ix2 r i) Words.neg_inf (ix3 r i 0) (drop_at r i 0) (hx 0)
  obtain ⟨p, rfl⟩ := of_drop r i v hv
  have hy : iotaInDim S16384x8x1024 32 2 (ix3 r i p) = BitVec.ofNat 32 p.val := rfl
  have e : rIdx x (ix2 r i) = BitVec.ofNat 32 p.val := by
    rw [rIdx_eq, he, hy]
  refine ⟨p, e, fun k => ?_, fun k hk => ?_⟩
  · rcases hb _ (drop_at r i k) with h | ⟨h, -⟩
    · exact h.le
    · exact h.le
  · rcases hb _ (drop_at r i k) with h | ⟨-, h⟩
    · exact h
    · exfalso
      change (BitVec.ofNat 32 p.val).toInt ≤ (BitVec.ofNat 32 k.val).toInt at h
      rw [Words.toInt_ofNat p.val (by omega), Words.toInt_ofNat k.val (by omega)] at h
      have := Fin.lt_def.mp hk
      omega

/-! The scatter. -/

theorem coords_row (j : IVec S16384x8 32) (a : Fin 16384) (b : Fin 8) : joinCoords (F := Ideal) rRows (rCols j) (ix3 a b 0) = BitVec.ofNat 32 a.val := by
  pointwise [joinCoords, rRows]
  rw [Words.slt_zero _ (by omega)]
  rfl

theorem coords_col (j : IVec S16384x8 32) (a : Fin 16384) (b : Fin 8) (q : Fin 1024) (hq : j (ix2 a b) = BitVec.ofNat 32 q.val) :
    joinCoords (F := Ideal) rRows (rCols j) (ix3 a b 1) = BitVec.ofNat 32 q.val := by
  pointwise [joinCoords, rCols]
  rw [hq, Words.slt_zero _ (by omega)]
  rfl

/-- The scattered sum: each entry of a row gets the masks of the draws that pick it. -/
theorem rSel_at (j : IVec S16384x8 32) (mask : FVec Ideal S16384x8 .f32) (q : Fin 16384 → Fin 8 → Fin 1024) (hq : ∀ a b, j (ix2 a b) = BitVec.ofNat 32 (q a b).val)
    (r : Fin 16384) (c : Fin 1024) : rSel j mask (ix2 r c) = ∑ b : Fin 8, if q r b = c then mask (ix2 r b) else 0 := by
  have lands : ∀ (a : Fin 16384) (b : Fin 8), scatter_S16384x1024_S16384x8x2_S16384x8_n_01_01_2.resultIdx? (ix2 a b : S16384x8.Idx) (joinCoords (F := Ideal) rRows (rCols j)) = some (ix2 r c) ↔ a = r ∧ q a b = c := fun a b => by
    refine (Routing.scatter_lands2 scatter_S16384x1024_S16384x8x2_S16384x8_n_01_01_2 rfl rfl rfl (joinCoords (F := Ideal) rRows (rCols j)) a b r c).trans ?_
    rw [← ix3_eq_valueIdx, ← ix3_eq_valueIdx, coords_row, coords_col j a b (q a b) (hq a b), Words.toInt_ofNat _ (by omega), Words.toInt_ofNat _ (by omega)]
    simp [Fin.ext_iff]
  unfold rSel
  show (broadcastInDim S16384x1024 ![] bcast_S_S16384x1024 (constant S_ .f32 0x00000000#32 : FVec Ideal S_ .f32)) (ix2 r c)
    + ∑ k ∈ univ.filter (fun k => scatter_S16384x1024_S16384x8x2_S16384x8_n_01_01_2.resultIdx? k (joinCoords (F := Ideal) rRows (rCols j)) = some (ix2 r c)), mask k = _
  rw [show (broadcastInDim S16384x1024 ![] bcast_S_S16384x1024 (constant S_ .f32 0x00000000#32 : FVec Ideal S_ .f32)) (ix2 r c) = 0 from Ideal.ofBits_zero_f32, zero_add,
    sum_filter, ValueIdx.sum_idx2]
  simp only [← ix2_eq_valueIdx, lands]
  rw [sum_eq_single r (fun a _ ha => sum_eq_zero fun b _ => if_neg fun h => ha h.1) (by simp)]
  exact sum_congr rfl fun b _ => by simp

end Cert.ReferenceIdeal.Hand

end
-- ==== Proof.RefSpec.lean ====
/- The reference's two results, one row at a time. -/
module

public import proofs.«01_k».proof.Proof.RefRow
public import proofs.«01_k».proof.Proof.RefFold

@[expose] public section

set_option maxRecDepth 16384

noncomputable section

namespace Cert.ReferenceIdeal.Hand

open Cert.ReferenceIdeal Cert.ReferenceIdeal.Gen Idealize.ShloMosaic Idealize.ShloMosaic.TcCoe Idealize.SL.Sem

theorem exp_nonneg (x : EReal) : 0 ≤ Ideal.exp x := by
  induction x with
  | bot => exact le_rfl
  | top => exact le_top
  | coe r => exact EReal.coe_nonneg.mpr (Real.exp_pos r).le

theorem refQt_row (a0 a1 : FVec Ideal S16384x1024 .f32) (a3 : FVec Ideal S2048x256 .f32) (a4 : FVec Ideal S256 .f32) (r : Fin 16384) (h : Fin 256) :
    refQt a0 a1 a3 a4 (ix2 r h) = Draw.embed (fun k => a0 (ix2 r k)) (fun k => a1 (ix2 r k)) (fun k h => a3 (ix2 k h)) (fun h => a4 (ix1 h)) h := by
  unfold refQt
  rw [rQn_at]
  simp only [rQraw_at]
  rfl

theorem refLe_row (a2 : FVec Ideal S1024x1024 .f32) (a5 : FVec Ideal S1024x256 .f32) (a6 : FVec Ideal S256 .f32) (c : Fin 1024) (h : Fin 256) :
    refLe a2 a5 a6 (ix2 c h) = Draw.agent (fun k => a2 (ix2 c k)) (fun k h => a5 (ix2 k h)) (fun h => a6 (ix1 h)) h := by
  unfold refLe
  rw [rLn_at]
  simp only [rLraw_at]
  rfl

theorem refScores_row (qt : FVec Ideal S16384x256 .f32) (le : FVec Ideal S1024x256 .f32) (r : Fin 16384) (c : Fin 1024) :
    refScores qt le (ix2 r c) = Draw.scores (fun h => qt (ix2 r h)) (fun c h => le (ix2 c h)) c := by
  unfold refScores
  rw [rShare_at]
  simp only [rExp_at, rLogits_at]
  rfl

theorem scores_mono (v : Fin 256 → EReal) (a : Fin 1024 → Fin 256 → EReal) : Monotone (Draw.upTo (Draw.scores v a)) :=
  Draw.upTo_mono (Draw.share_sign fun _ => exp_nonneg _)

/-- The column a draw picks. -/
theorem rIdx_row (s : FVec Ideal S16384x1024 .f32) (d : FVec Ideal S16384x8 .f32) (r : Fin 16384) (hs : Monotone (Draw.upTo fun k => s (ix2 r k))) (i : Fin 8) :
    rIdx (rExceeds (rCum s) d) (ix2 r i) = BitVec.ofNat 32 (Draw.pick (Draw.upTo fun k => s (ix2 r k)) (d (ix2 r i))).val := by
  have hx : ∀ k : Fin 1024, rExceeds (rCum s) d (ix3 r i k) = if d (ix2 r i) < Draw.upTo (fun k => s (ix2 r k)) k then 1 else 0 := fun k => by
    rw [rExceeds_at, rCum_at]
  obtain ⟨p, hp, hmax, hfirst⟩ := rIdx_at (rExceeds (rCum s) d) r i fun k => by
    rw [hx]
    split
    · exact (EReal.bot_lt_coe 1).ne'
    · exact (EReal.bot_lt_coe 0).ne'
  simp only [hx] at hmax hfirst
  rw [hp, Draw.pick_eq hs _ p hmax hfirst]

/-- The counts per column. -/
theorem refSel_at (lnf : FVec Ideal S16384x1 .f32) (s : FVec Ideal S16384x1024 .f32) (d : FVec Ideal S16384x8 .f32) (hs : ∀ r : Fin 16384, Monotone (Draw.upTo fun k => s (ix2 r k)))
    (r : Fin 16384) (c : Fin 1024) : refSel lnf s d (ix2 r c) = Draw.selected (lnf (ix2 r 0)) (fun k => s (ix2 r k)) (Draw.drawn fun k => d (ix2 r k)) c := by
  unfold refSel
  rw [rSel_at _ _ (fun r i => Draw.pick (Draw.upTo fun k => s (ix2 r k)) (d (ix2 r i))) (fun r i => rIdx_row s d r (hs r) i)]
  unfold Draw.selected Draw.count
  rw [← Fin.sum_univ_eq_sum_range (fun k => if Draw.pick (Draw.upTo fun k => s (ix2 r k)) (Draw.drawn (fun k => d (ix2 r k)) k) = c then Draw.act (Draw.Active (lnf (ix2 r 0))) k else 0) 8]
  refine Finset.sum_congr rfl fun b _ => ?_
  rw [rMask_at, Draw.drawn, dif_pos b.isLt]

variable (a0 a1 : FVec Ideal S16384x1024 .f32) (a2 : FVec Ideal S1024x1024 .f32) (a3 : FVec Ideal S2048x256 .f32) (a4 : FVec Ideal S256 .f32) (a5 : FVec Ideal S1024x256 .f32)
  (a6 : FVec Ideal S256 .f32) (a7 : FVec Ideal S256x1 .f32) (a8 : FVec Ideal S1 .f32) (a9 : FVec Ideal S16384x8 .f32)

theorem lnf_row (r : Fin 16384) : rLnf (refQt a0 a1 a3 a4) a7 a8 (ix2 r 0)
    = Draw.expected (Draw.embed (fun k => a0 (ix2 r k)) (fun k => a1 (ix2 r k)) (fun k h => a3 (ix2 k h)) fun h => a4 (ix1 h)) (fun h => a7 (ix2 h 0)) (a8 (ix1 0)) := by
  rw [rLnf_at]
  simp only [refQt_row]

theorem scores_row (r : Fin 16384) (c : Fin 1024) : refScores (refQt a0 a1 a3 a4) (refLe a2 a5 a6) (ix2 r c)
    = Draw.scores (Draw.embed (fun k => a0 (ix2 r k)) (fun k => a1 (ix2 r k)) (fun k h => a3 (ix2 k h)) fun h => a4 (ix1 h))
      (fun c => Draw.agent (fun k => a2 (ix2 c k)) (fun k h => a5 (ix2 k h)) fun h => a6 (ix1 h)) c := by
  rw [refScores_row]
  simp only [refQt_row, refLe_row]

/-- A row of the first result. -/
theorem sel_row (r : Fin 16384) (c : Fin 1024) : refSel (rLnf (refQt a0 a1 a3 a4) a7 a8) (refScores (refQt a0 a1 a3 a4) (refLe a2 a5 a6)) a9 (ix2 r c)
    = Draw.rowSel (fun k => a0 (ix2 r k)) (fun k => a1 (ix2 r k)) (fun k h => a3 (ix2 k h)) (fun h => a4 (ix1 h)) (fun h => a7 (ix2 h 0)) (a8 (ix1 0))
      (fun c => Draw.agent (fun k => a2 (ix2 c k)) (fun k h => a5 (ix2 k h)) fun h => a6 (ix1 h)) (fun k => a9 (ix2 r k)) c := by
  rw [refSel_at _ _ _ (fun r => by simp only [scores_row]; exact scores_mono _ _), lnf_row]
  simp only [scores_row]
  rfl

/-- An entry of the second result. -/
theorem logp_row (r : Fin 16384) : refLogp (rLnf (refQt a0 a1 a3 a4) a7 a8) (refScores (refQt a0 a1 a3 a4) (refLe a2 a5 a6))
      (refSel (rLnf (refQt a0 a1 a3 a4) a7 a8) (refScores (refQt a0 a1 a3 a4) (refLe a2 a5 a6)) a9) (ix2 r 0)
    = Draw.rowLog (fun k => a0 (ix2 r k)) (fun k => a1 (ix2 r k)) (fun k h => a3 (ix2 k h)) (fun h => a4 (ix1 h)) (fun h => a7 (ix2 h 0)) (a8 (ix1 0))
      (fun c => Draw.agent (fun k => a2 (ix2 c k)) (fun k h => a5 (ix2 k h)) fun h => a6 (ix1 h)) (fun k => a9 (ix2 r k)) := by
  rw [refLogp_at, lnf_row]
  simp only [scores_row, sel_row]
  rfl

end Cert.ReferenceIdeal.Hand

end
-- ==== Proof.Agree.lean ====
/- The two programs compute the same results: the reference's arrays are the kernel's, row by row. -/
module

public import proofs.«01_k».proof.Defs
public import proofs.«01_k».proof.Proof.KerRun
public import proofs.«01_k».proof.Proof.RefSpec

@[expose] public section

set_option maxRecDepth 16384

noncomputable section

namespace Cert.Agree

open Idealize.ShloMosaic Idealize.ShloMosaic.TcCoe Idealize.SL.Sem Cert.ReferenceIdeal Cert.ReferenceIdeal.Hand

variable {a0 a1 b0 b1 : FVec Ideal S16384x1024 .f32} {a2 b2 : FVec Ideal S1024x1024 .f32} {a3 b3 : FVec Ideal S2048x256 .f32} {a4 b4 : FVec Ideal S256 .f32} {a5 b5 : FVec Ideal S1024x256 .f32}
  {a6 b6 : FVec Ideal S256 .f32} {a7 b7 : FVec Ideal S256x1 .f32} {a8 b8 : FVec Ideal S1 .f32} {a9 b9 : FVec Ideal S16384x8 .f32}
  (h0 : a0 = b0) (h1 : a1 = b1) (h2 : a2 = b2) (h3 : a3 = b3) (h4 : a4 = b4) (h5 : a5 = b5) (h6 : a6 = b6) (h7 : a7 = b7) (h8 : a8 = b8) (h9 : a9 = b9)

include h0 h1 h2 h3 h4 h5 h6 h7 h8 h9

/-- The counts. -/
theorem sel_eq : refSel (rLnf (refQt a0 a1 a3 a4) a7 a8) (refScores (refQt a0 a1 a3 a4) (refLe a2 a5 a6)) a9
    = Cert.KernelIdeal.Hand.selOf b0 b1 b2 b3 b4 b5 b6 b7 b8 b9 := by
  subst h0 h1 h2 h3 h4 h5 h6 h7 h8 h9
  funext j
  obtain ⟨r, k, rfl⟩ : ∃ (r : Fin 16384) (k : Fin 1024), j = ix2 r k := ⟨j 0, j 1, by funext a; fin_cases a <;> rfl⟩
  exact sel_row a0 a1 a2 a3 a4 a5 a6 a7 a8 a9 r k

/-- The log probabilities. -/
theorem log_eq : refLogp (rLnf (refQt a0 a1 a3 a4) a7 a8) (refScores (refQt a0 a1 a3 a4) (refLe a2 a5 a6))
      (refSel (rLnf (refQt a0 a1 a3 a4) a7 a8) (refScores (refQt a0 a1 a3 a4) (refLe a2 a5 a6)) a9)
    = Cert.KernelIdeal.Hand.logOf b0 b1 b2 b3 b4 b5 b6 b7 b8 b9 := by
  subst h0 h1 h2 h3 h4 h5 h6 h7 h8 h9
  funext j
  obtain ⟨r, rfl⟩ : ∃ (r : Fin 16384), j = ix2 r 0 := ⟨j 0, by
    funext a
    fin_cases a
    · rfl
    · exact Subsingleton.elim (α := Fin 1) _ _⟩
  exact logp_row a0 a1 a2 a3 a4 a5 a6 a7 a8 a9 r

omit h0 h1 h2 h3 h4 h5 h6 h7 h8 h9

/-- From equal arguments both programs end with the same two results, the arguments unchanged. -/
theorem algebraic : Cert.algebraic_KernelIdeal_ReferenceIdeal (hKernelIdeal := Cert.KernelIdeal.Gen.facts) (hReferenceIdeal := Cert.ReferenceIdeal.Gen.facts) :=
  fun m g m' g' _ hargs => by
  refine ⟨_, _, Cert.KernelIdeal.Hand.run m g, (θ_run (Cert.ReferenceIdeal.defs (F := Ideal)) _ _).mono (fun r h c => ?_) (Cert.ReferenceIdeal.Hand.run m' g')⟩
  obtain ⟨h0, h1, h2, h3, h4, h5, h6, h7, h8, h9⟩ := hargs c
  exact ⟨(h c).1.1.trans (sel_eq h0 h1 h2 h3 h4 h5 h6 h7 h8 h9), (h c).1.2.trans (log_eq h0 h1 h2 h3 h4 h5 h6 h7 h8 h9), (h c).2⟩

end Cert.Agree

end
-- ==== Proof.lean ====
/- The certificate of the routing kernel: the frames of the kernel, of its idealization and of the reference, and the equality of the kernel's results with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its arguments unchanged; it declares no semaphore. -/
theorem reference_frame : Cert.quiescent_ReferenceIdeal (hReferenceIdeal := Cert.ReferenceIdeal.Gen.facts) := fun m g _ =>
  (θ_run (Cert.ReferenceIdeal.defs (F := Ideal)) _ _).mono
    (fun r h => ⟨fun c => (h c).2, sem_eq_zero_of_no_sems (by decide) r.2⟩) (Cert.ReferenceIdeal.Hand.run m g)

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, Cert.Agree.algebraic⟩

end Cert.Proof

end
